-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![64, 512, 1024]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![2048, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v23) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩
abbrev S2048x64 : Shape := ⟨2, ![2048, 64]⟩

class Facts : Prop where
  bcast_S_S2048x1 : S_.BroadcastsInDim S2048x1 (![] : Fin 0 → Fin S2048x1.rank)
  bcast_S_S2048x64 : S_.BroadcastsInDim S2048x64 (![] : Fin 0 → Fin S2048x64.rank)
  bcast_S2048x1_S2048x64_0_1 : S2048x1.BroadcastsInDim S2048x64 (![0, 1] : Fin 2 → Fin S2048x64.rank)
  dot_S2048x512_S512x64_S2048x64_1_0_0_1_n_n_wf : DotDims.WF S2048x512 S512x64 S2048x64 [1] [0] [0] [1] [] []

variable [Facts]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def fn {F : FTy → Type} [FloatOps F] (main_arg0 : FVec F S2048x512 .f32) (main_arg1 : FVec F S512x64 .f32) (main_arg2 : IVec S2048x1 32) (main_arg3 : FVec F S8x512x1024 .f32) (main_arg4 : FVec F S512x1024 .f32) : IVec S2048x64 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_v5 : FVec F S2048x64 .f32 := (fun l r => Host.dotGeneral dot_S2048x512_S512x64_S2048x64_1_0_0_1_n_n none l r) main_arg0 main_arg1
  let main_v6 : FVec F S2048x64 .f32 := Host.absf main_v5
  let main_cst : FVec F S_ .f32 := constant S_ .f32 0x7F800000#32
  let main_v7 : FVec F S2048x64 .f32 := broadcastInDim S2048x64 ![] bcast_S_S2048x64 main_cst
  let main_v8 : IVec S2048x64 1 := cmpf .olt main_v6 main_v7
  let main_v9 : IVec S2048x64 1 := broadcastInDim S2048x64 ![0, 1] bcast_S2048x1_S2048x64_0_1 main_v4
  let main_v10 : IVec S2048x64 1 := andi main_v9 main_v8
  main_v10
-- ==== Pre_routed_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S_ : Shape := ⟨0, ![]⟩
abbrev S2048x64 : Shape := ⟨2, ![2048, 64]⟩

class Facts : Prop where
  bcast_S_S2048x1 : S_.BroadcastsInDim S2048x1 (![] : Fin 0 → Fin S2048x1.rank)
  bcast_S_S2048x64 : S_.BroadcastsInDim S2048x64 (![] : Fin 0 → Fin S2048x64.rank)
  bcast_S2048x1_S2048x64_0_1 : S2048x1.BroadcastsInDim S2048x64 (![0, 1] : Fin 2 → Fin S2048x64.rank)
  dot_S2048x512_S512x64_S2048x64_1_0_0_1_n_n_wf : DotDims.WF S2048x512 S512x64 S2048x64 [1] [0] [0] [1] [] []

variable [Facts]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def fn {F : FTy → Type} [FloatOps F] (main_arg0 : FVec F S2048x512 .f32) (main_arg1 : FVec F S512x64 .f32) (main_arg2 : IVec S2048x1 32) (main_arg3 : FVec F S64x512x1024 .f32) (main_arg4 : FVec F S512x1024 .f32) : IVec S2048x64 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_v5 : FVec F S2048x64 .f32 := (fun l r => Host.dotGeneral dot_S2048x512_S512x64_S2048x64_1_0_0_1_n_n none l r) main_arg0 main_arg1
  let main_v6 : FVec F S2048x64 .f32 := Host.absf main_v5
  let main_cst : FVec F S_ .f32 := constant S_ .f32 0x7F800000#32
  let main_v7 : FVec F S2048x64 .f32 := broadcastInDim S2048x64 ![] bcast_S_S2048x64 main_cst
  let main_v8 : IVec S2048x64 1 := cmpf .olt main_v6 main_v7
  let main_v9 : IVec S2048x64 1 := broadcastInDim S2048x64 ![0, 1] bcast_S2048x1_S2048x64_0_1 main_v4
  let main_v10 : IVec S2048x64 1 := andi main_v9 main_v8
  main_v10
-- ==== Kernel.lean ====
abbrev S2048x512 : Shape := ⟨2, ![2048, 512]⟩
abbrev S512x64 : Shape := ⟨2, ![512, 64]⟩
abbrev S2048x1 : Shape := ⟨2, ![2048, 1]⟩
abbrev S8x512x1024 : Shape := ⟨3, ![8, 512, 1024]⟩
abbrev S512x1024 : Shape := ⟨2, ![512, 1024]⟩
abbrev S256x1024 : Shape := ⟨2, ![256, 1024]⟩
abbrev S2048x384 : Shape := ⟨2, ![2048, 384]⟩
abbrev S2048x256 : Shape := ⟨2, ![2048, 256]⟩
abbrev S4x256x384 : Shape := ⟨3, ![4, 256, 384]⟩
abbrev S4x256x256 : Shape := ⟨3, ![4, 256, 256]⟩
abbrev S2x256x384 : Shape := ⟨3, ![2, 256, 384]⟩
abbrev S2x256x256 : Shape := ⟨3, ![2, 256, 256]⟩
abbrev S1x256x384 : Shape := ⟨3, ![1, 256, 384]⟩
abbrev S1x256x256 : Shape := ⟨3, ![1, 256, 256]⟩
abbrev S9 : Shape := ⟨1, ![9]⟩
abbrev S_ : Shape := ⟨0, ![]⟩
abbrev S2048x64 : Shape := ⟨2, ![2048, 64]⟩
abbrev S2048 : Shape := ⟨1, ![2048]⟩
abbrev S256x512 : Shape := ⟨2, ![256, 512]⟩
abbrev S256x1 : Shape := ⟨2, ![256, 1]⟩
abbrev S1x512x384 : Shape := ⟨3, ![1, 512, 384]⟩
abbrev S512x384 : Shape := ⟨2, ![512, 384]⟩
abbrev S256x384 : Shape := ⟨2, ![256, 384]⟩
abbrev S1 : Shape := ⟨1, ![1]⟩
abbrev S1x512x256 : Shape := ⟨3, ![1, 512, 256]⟩
abbrev S512x256 : Shape := ⟨2, ![512, 256]⟩
abbrev S256x256 : Shape := ⟨2, ![256, 256]⟩

abbrev nBuf : Space → Nat
  | .hbm => 6
  | .vmem => 29
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S8x512x1024, .f32⟩
  | .hbm, ⟨4, _⟩ => ⟨S512x1024, .f32⟩
  | .hbm, ⟨5, _⟩ => ⟨S256x1024, .f32⟩
  | .local _ .vmem, ⟨0, _⟩ => ⟨S2048x512, .f32⟩
  | .local _ .vmem, ⟨1, _⟩ => ⟨S512x64, .f32⟩
  | .local _ .vmem, ⟨2, _⟩ => ⟨S2048x1, .i32⟩
  | .local _ .vmem, ⟨3, _⟩ => ⟨S8x512x1024, .f32⟩
  | .local _ .vmem, ⟨4, _⟩ => ⟨S512x1024, .f32⟩
  | .local _ .vmem, ⟨5, _⟩ => ⟨S256x1024, .f32⟩
  | .local _ .vmem, ⟨6, _⟩ => ⟨S2048x1, .f32⟩
  | .local _ .vmem, ⟨7, _⟩ => ⟨S8x512x1024, .bf16⟩
  | .local _ .vmem, ⟨8, _⟩ => ⟨S2048x384, .f32⟩
  | .local _ .vmem, ⟨9, _⟩ => ⟨S2048x384, .f32⟩
  | .local _ .vmem, ⟨10, _⟩ => ⟨S2048x256, .f32⟩
  | .local _ .vmem, ⟨11, _⟩ => ⟨S4x256x384, .bf16⟩
  | .local _ .vmem, ⟨12, _⟩ => ⟨S4x256x384, .bf16⟩
  | .local _ .vmem, ⟨13, _⟩ => ⟨S4x256x256, .bf16⟩
  | .local _ .vmem, ⟨14, _⟩ => ⟨S2x256x384, .bf16⟩
  | .local _ .vmem, ⟨15, _⟩ => ⟨S2x256x384, .bf16⟩
  | .local _ .vmem, ⟨16, _⟩ => ⟨S2x256x256, .bf16⟩
  | .local _ .vmem, ⟨17, _⟩ => ⟨S1x256x384, .bf16⟩
  | .local _ .vmem, ⟨18, _⟩ => ⟨S1x256x384, .bf16⟩
  | .local _ .vmem, ⟨19, _⟩ => ⟨S1x256x256, .bf16⟩
  | .local _ .vmem, ⟨20, _⟩ => ⟨S4x256x384, .bf16⟩
  | .local _ .vmem, ⟨21, _⟩ => ⟨S4x256x384, .bf16⟩
  | .local _ .vmem, ⟨22, _⟩ => ⟨S4x256x256, .bf16⟩
  | .local _ .vmem, ⟨23, _⟩ => ⟨S2x256x384, .bf16⟩
  | .local _ .vmem, ⟨24, _⟩ => ⟨S2x256x384, .bf16⟩
  | .local _ .vmem, ⟨25, _⟩ => ⟨S2x256x256, .bf16⟩
  | .local _ .vmem, ⟨26, _⟩ => ⟨S1x256x384, .bf16⟩
  | .local _ .vmem, ⟨27, _⟩ => ⟨S1x256x384, .bf16⟩
  | .local _ .vmem, ⟨28, _⟩ => ⟨S1x256x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_scratch17 : Ref sig .tc := ⟨.vmem, 23, rfl⟩
abbrev cc0_scratch18 : Ref sig .tc := ⟨.vmem, 24, rfl⟩
abbrev cc0_scratch19 : Ref sig .tc := ⟨.vmem, 25, rfl⟩
abbrev cc0_scratch20 : Ref sig .tc := ⟨.vmem, 26, rfl⟩
abbrev cc0_scratch21 : Ref sig .tc := ⟨.vmem, 27, rfl⟩
abbrev cc0_scratch22 : Ref sig .tc := ⟨.vmem, 28, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v44 : BitVec 32 := Scalar.muli v19 c4_i32_15
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_27 : BitVec 32 := 1#32
  let v71 : BitVec 32 := Scalar.muli v51 c1_i32_27
  let v72 : BitVec 32 := Scalar.addi c0_i32_28 v71
  v72.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v53 : BitVec 32 := Scalar.muli v19 c4_i32_19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_30 : BitVec 32 := 1#32
  let v73 : BitVec 32 := Scalar.muli v60 c1_i32_30
  let v74 : BitVec 32 := Scalar.addi c0_i32_31 v73
  v74.toNat
def k0_dev3 (d0 : Dev nD) : Nat :=
  let c0_i32_34 : BitVec 32 := 0#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let c4_i32_23 : BitVec 32 := 4#32
  let v62 : BitVec 32 := Scalar.muli v61 c4_i32_23
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_33 : BitVec 32 := 1#32
  let v75 : BitVec 32 := Scalar.muli v69 c1_i32_33
  let v76 : BitVec 32 := Scalar.addi c0_i32_34 v75
  v76.toNat
def k0_off1 (d0 : Dev nD) (c0_i32_56 : BitVec 32) (c0_i32_53 : BitVec 32) (c0_i32_55 : BitVec 32) : Fin 2 → Nat :=
  let c1_i32_52 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v109 : BitVec 32 := Scalar.subi c1_i32_52 v42
  let v110 : BitVec 32 := Scalar.addi v109 c0_i32_53
  let c2_i32_54 : BitVec 32 := 2#32
  let v111 : BitVec 32 := Scalar.muli c2_i32_54 v109
  let v112 : BitVec 32 := Scalar.muli v111 c0_i32_55
  let v113 : BitVec 32 := Scalar.subi v110 v112
  let v114 : BitVec 32 := Scalar.addi c0_i32_56 v113
  let c256_i32 : BitVec 32 := 256#32
  let v115 : BitVec 32 := Scalar.muli v114 c256_i32
  let v116 : Index := Scalar.indexCast v115
  let c0_57 : Index := 0#32
  ![v116.toNat, 0]
def k0_off1_at (r : Fin 4) : BitVec 32 × BitVec 32 × BitVec 32 :=
  if r.val < 2 then
    if r.val < 1 then
      (0#32, 0#32, 0#32)
    else
      (2#32, 1#32, 1#32)
  else
    if r.val < 3 then
      (4#32, 0#32, 0#32)
    else
      (6#32, 1#32, 1#32)
def k0_off2 (d0 : Dev nD) (c0_i32_56 : BitVec 32) (c0_i32_53 : BitVec 32) (c0_i32_55 : BitVec 32) : Fin 2 → Nat :=
  let c1_i32_52 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v109 : BitVec 32 := Scalar.subi c1_i32_52 v42
  let v110 : BitVec 32 := Scalar.addi v109 c0_i32_53
  let c2_i32_54 : BitVec 32 := 2#32
  let v111 : BitVec 32 := Scalar.muli c2_i32_54 v109
  let v112 : BitVec 32 := Scalar.muli v111 c0_i32_55
  let v113 : BitVec 32 := Scalar.subi v110 v112
  let v114 : BitVec 32 := Scalar.addi c0_i32_56 v113
  let c256_i32_58 : BitVec 32 := 256#32
  let v119 : BitVec 32 := Scalar.muli v114 c256_i32_58
  let v120 : Index := Scalar.indexCast v119
  let c0_59 : Index := 0#32
  ![v120.toNat, 0]
def k0_off2_at (r : Fin 4) : BitVec 32 × BitVec 32 × BitVec 32 :=
  if r.val < 2 then
    if r.val < 1 then
      (0#32, 0#32, 0#32)
    else
      (2#32, 1#32, 1#32)
  else
    if r.val < 3 then
      (4#32, 0#32, 0#32)
    else
      (6#32, 1#32, 1#32)
def k0_dev4 (d0 : Dev nD) : Nat :=
  let c0_i32_296 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v44 : BitVec 32 := Scalar.muli v19 c4_i32_15
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_295 : BitVec 32 := 1#32
  let v557 : BitVec 32 := Scalar.muli v51 c1_i32_295
  let v558 : BitVec 32 := Scalar.addi c0_i32_296 v557
  v558.toNat
def k0_off3 (d0 : Dev nD) (c0_i32_299 : BitVec 32) (c0_i32_300 : BitVec 32) (c0_i32_301 : BitVec 32) : Fin 2 → Nat :=
  let c2_i32_298 : BitVec 32 := 2#32
  let c1_i32_297 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v563 : BitVec 32 := Scalar.subi c1_i32_297 v37
  let v564 : BitVec 32 := Scalar.muli c2_i32_298 v563
  let v565 : BitVec 32 := Scalar.addi c0_i32_299 v564
  let v566 : BitVec 32 := Scalar.addi c0_i32_300 v563
  let v567 : BitVec 32 := Scalar.muli c0_i32_301 v563
  let v568 : BitVec 32 := Scalar.subi v566 v567
  let v569 : BitVec 32 := Scalar.addi v565 v568
  let c256_i32_302 : BitVec 32 := 256#32
  let v570 : BitVec 32 := Scalar.muli v569 c256_i32_302
  let v571 : Index := Scalar.indexCast v570
  let c0_303 : Index := 0#32
  ![v571.toNat, 0]
def k0_off3_at (r : Fin 4) : BitVec 32 × BitVec 32 × BitVec 32 :=
  if r.val < 2 then
    if r.val < 1 then
      (0#32, 0#32, 0#32)
    else
      (4#32, 0#32, 0#32)
  else
    if r.val < 3 then
      (0#32, 1#32, 2#32)
    else
      (4#32, 1#32, 2#32)
def k0_off4 (d0 : Dev nD) (c0_i32_299 : BitVec 32) (c0_i32_300 : BitVec 32) (c0_i32_301 : BitVec 32) : Fin 2 → Nat :=
  let c2_i32_298 : BitVec 32 := 2#32
  let c1_i32_297 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v563 : BitVec 32 := Scalar.subi c1_i32_297 v37
  let v564 : BitVec 32 := Scalar.muli c2_i32_298 v563
  let v565 : BitVec 32 := Scalar.addi c0_i32_299 v564
  let v566 : BitVec 32 := Scalar.addi c0_i32_300 v563
  let v567 : BitVec 32 := Scalar.muli c0_i32_301 v563
  let v568 : BitVec 32 := Scalar.subi v566 v567
  let v569 : BitVec 32 := Scalar.addi v565 v568
  let c256_i32_304 : BitVec 32 := 256#32
  let v574 : BitVec 32 := Scalar.muli v569 c256_i32_304
  let v575 : Index := Scalar.indexCast v574
  let c0_305 : Index := 0#32
  ![v575.toNat, 0]
def k0_off4_at (r : Fin 4) : BitVec 32 × BitVec 32 × BitVec 32 :=
  if r.val < 2 then
    if r.val < 1 then
      (0#32, 0#32, 0#32)
    else
      (4#32, 0#32, 0#32)
  else
    if r.val < 3 then
      (0#32, 1#32, 2#32)
    else
      (4#32, 1#32, 2#32)
def k0_dev5 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v53 : BitVec 32 := Scalar.muli v19 c4_i32_19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_550 : BitVec 32 := 1#32
  let v1015 : BitVec 32 := Scalar.muli v60 c1_i32_550
  let v1016 : BitVec 32 := Scalar.addi c0_i32_551 v1015
  v1016.toNat
def k0_off5 (d0 : Dev nD) (c0_i32_554 : BitVec 32) (c0_i32_555 : BitVec 32) : Fin 2 → Nat :=
  let c1_i32_552 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1021 : BitVec 32 := Scalar.subi c1_i32_552 v19
  let c4_i32_553 : BitVec 32 := 4#32
  let v1022 : BitVec 32 := Scalar.muli v1021 c4_i32_553
  let v1023 : BitVec 32 := Scalar.addi v1022 c0_i32_554
  let v1024 : BitVec 32 := Scalar.addi v1023 c0_i32_555
  let c256_i32_556 : BitVec 32 := 256#32
  let v1025 : BitVec 32 := Scalar.muli v1024 c256_i32_556
  let v1026 : Index := Scalar.indexCast v1025
  let c0_557 : Index := 0#32
  ![v1026.toNat, 0]
def k0_off6 (d0 : Dev nD) (c0_i32_554 : BitVec 32) (c0_i32_555 : BitVec 32) : Fin 2 → Nat :=
  let c1_i32_552 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1021 : BitVec 32 := Scalar.subi c1_i32_552 v19
  let c4_i32_553 : BitVec 32 := 4#32
  let v1022 : BitVec 32 := Scalar.muli v1021 c4_i32_553
  let v1023 : BitVec 32 := Scalar.addi v1022 c0_i32_554
  let v1024 : BitVec 32 := Scalar.addi v1023 c0_i32_555
  let c256_i32_558 : BitVec 32 := 256#32
  let v1029 : BitVec 32 := Scalar.muli v1024 c256_i32_558
  let v1030 : Index := Scalar.indexCast v1029
  let c0_559 : Index := 0#32
  ![v1030.toNat, 0]
def k0_dev6 (d0 : Dev nD) : Nat :=
  let c0_i32_802 : BitVec 32 := 0#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let c4_i32_23 : BitVec 32 := 4#32
  let v62 : BitVec 32 := Scalar.muli v61 c4_i32_23
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_801 : BitVec 32 := 1#32
  let v1461 : BitVec 32 := Scalar.muli v69 c1_i32_801
  let v1462 : BitVec 32 := Scalar.addi c0_i32_802 v1461
  v1462.toNat
def k0_off7 (d0 : Dev nD) (c0_i32_805 : BitVec 32) : Fin 2 → Nat :=
  let c2_i32_804 : BitVec 32 := 2#32
  let c1_i32_803 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1467 : BitVec 32 := Scalar.subi c1_i32_803 v37
  let v1468 : BitVec 32 := Scalar.muli c2_i32_804 v1467
  let v1469 : BitVec 32 := Scalar.addi c0_i32_805 v1468
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v1470 : BitVec 32 := Scalar.addi v42 v1467
  let c2_i32_806 : BitVec 32 := 2#32
  let v1471 : BitVec 32 := Scalar.muli c2_i32_806 v42
  let v1472 : BitVec 32 := Scalar.muli v1471 v1467
  let v1473 : BitVec 32 := Scalar.subi v1470 v1472
  let v1474 : BitVec 32 := Scalar.addi v1469 v1473
  let c256_i32_807 : BitVec 32 := 256#32
  let v1475 : BitVec 32 := Scalar.muli v1474 c256_i32_807
  let v1476 : Index := Scalar.indexCast v1475
  let c0_808 : Index := 0#32
  ![v1476.toNat, 0]
def k0_off8 (d0 : Dev nD) (c0_i32_805 : BitVec 32) : Fin 2 → Nat :=
  let c2_i32_804 : BitVec 32 := 2#32
  let c1_i32_803 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1467 : BitVec 32 := Scalar.subi c1_i32_803 v37
  let v1468 : BitVec 32 := Scalar.muli c2_i32_804 v1467
  let v1469 : BitVec 32 := Scalar.addi c0_i32_805 v1468
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v1470 : BitVec 32 := Scalar.addi v42 v1467
  let c2_i32_806 : BitVec 32 := 2#32
  let v1471 : BitVec 32 := Scalar.muli c2_i32_806 v42
  let v1472 : BitVec 32 := Scalar.muli v1471 v1467
  let v1473 : BitVec 32 := Scalar.subi v1470 v1472
  let v1474 : BitVec 32 := Scalar.addi v1469 v1473
  let c256_i32_809 : BitVec 32 := 256#32
  let v1479 : BitVec 32 := Scalar.muli v1474 c256_i32_809
  let v1480 : Index := Scalar.indexCast v1479
  let c0_810 : Index := 0#32
  ![v1480.toNat, 0]
def k0_off9 (d0 : Dev nD) (c0_i32_805 : BitVec 32) : Fin 2 → Nat :=
  let c2_i32_804 : BitVec 32 := 2#32
  let c1_i32_803 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1467 : BitVec 32 := Scalar.subi c1_i32_803 v37
  let v1468 : BitVec 32 := Scalar.muli c2_i32_804 v1467
  let v1469 : BitVec 32 := Scalar.addi c0_i32_805 v1468
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v1470 : BitVec 32 := Scalar.addi v42 v1467
  let c2_i32_806 : BitVec 32 := 2#32
  let v1471 : BitVec 32 := Scalar.muli c2_i32_806 v42
  let v1472 : BitVec 32 := Scalar.muli v1471 v1467
  let v1473 : BitVec 32 := Scalar.subi v1470 v1472
  let v1474 : BitVec 32 := Scalar.addi v1469 v1473
  let c256_i32_862 : BitVec 32 := 256#32
  let v1577 : BitVec 32 := Scalar.muli v1474 c256_i32_862
  let v1578 : Index := Scalar.indexCast v1577
  let c0_863 : Index := 0#32
  ![v1578.toNat, 0]
def k0_off10 (d0 : Dev nD) (c0_i32_928 : BitVec 32) (c0_i32_929 : BitVec 32) : Fin 2 → Nat :=
  let c1_i32_925 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1697 : BitVec 32 := Scalar.subi c1_i32_925 v19
  let c4_i32_926 : BitVec 32 := 4#32
  let v1698 : BitVec 32 := Scalar.muli v1697 c4_i32_926
  let c2_i32_927 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1699 : BitVec 32 := Scalar.muli c2_i32_927 v37
  let v1700 : BitVec 32 := Scalar.addi v1698 v1699
  let v1701 : BitVec 32 := Scalar.addi c0_i32_928 v37
  let v1702 : BitVec 32 := Scalar.muli c0_i32_929 v37
  let v1703 : BitVec 32 := Scalar.subi v1701 v1702
  let v1704 : BitVec 32 := Scalar.addi v1700 v1703
  let c256_i32_930 : BitVec 32 := 256#32
  let v1705 : BitVec 32 := Scalar.muli v1704 c256_i32_930
  let v1706 : Index := Scalar.indexCast v1705
  let c0_931 : Index := 0#32
  ![v1706.toNat, 0]
def k0_off10_at (r : Fin 2) : BitVec 32 × BitVec 32 :=
  if r.val < 1 then
    (0#32, 0#32)
  else
    (1#32, 2#32)
def k0_off11 (d0 : Dev nD) (c0_i32_928 : BitVec 32) (c0_i32_929 : BitVec 32) : Fin 2 → Nat :=
  let c1_i32_925 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1697 : BitVec 32 := Scalar.subi c1_i32_925 v19
  let c4_i32_926 : BitVec 32 := 4#32
  let v1698 : BitVec 32 := Scalar.muli v1697 c4_i32_926
  let c2_i32_927 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1699 : BitVec 32 := Scalar.muli c2_i32_927 v37
  let v1700 : BitVec 32 := Scalar.addi v1698 v1699
  let v1701 : BitVec 32 := Scalar.addi c0_i32_928 v37
  let v1702 : BitVec 32 := Scalar.muli c0_i32_929 v37
  let v1703 : BitVec 32 := Scalar.subi v1701 v1702
  let v1704 : BitVec 32 := Scalar.addi v1700 v1703
  let c256_i32_932 : BitVec 32 := 256#32
  let v1709 : BitVec 32 := Scalar.muli v1704 c256_i32_932
  let v1710 : Index := Scalar.indexCast v1709
  let c0_933 : Index := 0#32
  ![v1710.toNat, 0]
def k0_off11_at (r : Fin 2) : BitVec 32 × BitVec 32 :=
  if r.val < 1 then
    (0#32, 0#32)
  else
    (1#32, 2#32)
def k0_off12 (d0 : Dev nD) (c0_i32_928 : BitVec 32) (c0_i32_929 : BitVec 32) : Fin 2 → Nat :=
  let c1_i32_925 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1697 : BitVec 32 := Scalar.subi c1_i32_925 v19
  let c4_i32_926 : BitVec 32 := 4#32
  let v1698 : BitVec 32 := Scalar.muli v1697 c4_i32_926
  let c2_i32_927 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v1699 : BitVec 32 := Scalar.muli c2_i32_927 v37
  let v1700 : BitVec 32 := Scalar.addi v1698 v1699
  let v1701 : BitVec 32 := Scalar.addi c0_i32_928 v37
  let v1702 : BitVec 32 := Scalar.muli c0_i32_929 v37
  let v1703 : BitVec 32 := Scalar.subi v1701 v1702
  let v1704 : BitVec 32 := Scalar.addi v1700 v1703
  let c256_i32_985 : BitVec 32 := 256#32
  let v1807 : BitVec 32 := Scalar.muli v1704 c256_i32_985
  let v1808 : Index := Scalar.indexCast v1807
  let c0_986 : Index := 0#32
  ![v1808.toNat, 0]
def k0_off12_at (r : Fin 2) : BitVec 32 × BitVec 32 :=
  if r.val < 1 then
    (0#32, 0#32)
  else
    (1#32, 2#32)
def k0_off13 (d0 : Dev nD) (c0_i32_1051 : BitVec 32) (c0_i32_1052 : BitVec 32) (c0_i32_1054 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1050 : BitVec 32 := 4#32
  let v1928 : BitVec 32 := Scalar.muli v19 c4_i32_1050
  let v1929 : BitVec 32 := Scalar.addi v1928 c0_i32_1051
  let c1_i32_1049 : BitVec 32 := 1#32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v1927 : BitVec 32 := Scalar.subi c1_i32_1049 v42
  let v1930 : BitVec 32 := Scalar.addi v1927 c0_i32_1052
  let c2_i32_1053 : BitVec 32 := 2#32
  let v1931 : BitVec 32 := Scalar.muli c2_i32_1053 v1927
  let v1932 : BitVec 32 := Scalar.muli v1931 c0_i32_1054
  let v1933 : BitVec 32 := Scalar.subi v1930 v1932
  let v1934 : BitVec 32 := Scalar.addi v1929 v1933
  let c256_i32_1055 : BitVec 32 := 256#32
  let v1935 : BitVec 32 := Scalar.muli v1934 c256_i32_1055
  let v1936 : Index := Scalar.indexCast v1935
  let c0_1056 : Index := 0#32
  ![v1936.toNat, 0]
def k0_off13_at (r : Fin 2) : BitVec 32 × BitVec 32 × BitVec 32 :=
  if r.val < 1 then
    (0#32, 0#32, 0#32)
  else
    (2#32, 1#32, 1#32)
def k0_off14 (d0 : Dev nD) (c0_i32_1051 : BitVec 32) (c0_i32_1052 : BitVec 32) (c0_i32_1054 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1050 : BitVec 32 := 4#32
  let v1928 : BitVec 32 := Scalar.muli v19 c4_i32_1050
  let v1929 : BitVec 32 := Scalar.addi v1928 c0_i32_1051
  let c1_i32_1049 : BitVec 32 := 1#32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v1927 : BitVec 32 := Scalar.subi c1_i32_1049 v42
  let v1930 : BitVec 32 := Scalar.addi v1927 c0_i32_1052
  let c2_i32_1053 : BitVec 32 := 2#32
  let v1931 : BitVec 32 := Scalar.muli c2_i32_1053 v1927
  let v1932 : BitVec 32 := Scalar.muli v1931 c0_i32_1054
  let v1933 : BitVec 32 := Scalar.subi v1930 v1932
  let v1934 : BitVec 32 := Scalar.addi v1929 v1933
  let c256_i32_1057 : BitVec 32 := 256#32
  let v1939 : BitVec 32 := Scalar.muli v1934 c256_i32_1057
  let v1940 : Index := Scalar.indexCast v1939
  let c0_1058 : Index := 0#32
  ![v1940.toNat, 0]
def k0_off14_at (r : Fin 2) : BitVec 32 × BitVec 32 × BitVec 32 :=
  if r.val < 1 then
    (0#32, 0#32, 0#32)
  else
    (2#32, 1#32, 1#32)
def k0_off15 (d0 : Dev nD) (c0_i32_1051 : BitVec 32) (c0_i32_1052 : BitVec 32) (c0_i32_1054 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1050 : BitVec 32 := 4#32
  let v1928 : BitVec 32 := Scalar.muli v19 c4_i32_1050
  let v1929 : BitVec 32 := Scalar.addi v1928 c0_i32_1051
  let c1_i32_1049 : BitVec 32 := 1#32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v1927 : BitVec 32 := Scalar.subi c1_i32_1049 v42
  let v1930 : BitVec 32 := Scalar.addi v1927 c0_i32_1052
  let c2_i32_1053 : BitVec 32 := 2#32
  let v1931 : BitVec 32 := Scalar.muli c2_i32_1053 v1927
  let v1932 : BitVec 32 := Scalar.muli v1931 c0_i32_1054
  let v1933 : BitVec 32 := Scalar.subi v1930 v1932
  let v1934 : BitVec 32 := Scalar.addi v1929 v1933
  let c256_i32_1110 : BitVec 32 := 256#32
  let v2037 : BitVec 32 := Scalar.muli v1934 c256_i32_1110
  let v2038 : Index := Scalar.indexCast v2037
  let c0_1111 : Index := 0#32
  ![v2038.toNat, 0]
def k0_off15_at (r : Fin 2) : BitVec 32 × BitVec 32 × BitVec 32 :=
  if r.val < 1 then
    (0#32, 0#32, 0#32)
  else
    (2#32, 1#32, 1#32)
def k0_off16 (d0 : Dev nD) (c0_i32_1184 : BitVec 32) : Fin 3 → Nat :=
  let c1_i32_1183 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v2169 : BitVec 32 := Scalar.subi c1_i32_1183 v37
  let v2170 : BitVec 32 := Scalar.addi c0_i32_1184 v2169
  let v2174 : Index := Scalar.indexCast v2170
  let c0_1187 : Index := 0#32
  let c0_1188 : Index := 0#32
  ![v2174.toNat, 0, 0]
def k0_dev7 (d0 : Dev nD) : Nat :=
  let c0_i32_1208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v53 : BitVec 32 := Scalar.muli v19 c4_i32_19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_1207 : BitVec 32 := 1#32
  let v2205 : BitVec 32 := Scalar.muli v60 c1_i32_1207
  let v2206 : BitVec 32 := Scalar.addi c0_i32_1208 v2205
  v2206.toNat
def k0_off17 (d0 : Dev nD) (c0_i32_1219 : BitVec 32) : Fin 3 → Nat :=
  let c1_i32_1218 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v2223 : BitVec 32 := Scalar.subi c1_i32_1218 v19
  let v2224 : BitVec 32 := Scalar.addi c0_i32_1219 v2223
  let v2228 : Index := Scalar.indexCast v2224
  let c0_1222 : Index := 0#32
  let c0_1223 : Index := 0#32
  ![v2228.toNat, 0, 0]
def k0_dev8 (d0 : Dev nD) : Nat :=
  let c0_i32_1244 : BitVec 32 := 0#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let c4_i32_23 : BitVec 32 := 4#32
  let v62 : BitVec 32 := Scalar.muli v61 c4_i32_23
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_1243 : BitVec 32 := 1#32
  let v2259 : BitVec 32 := Scalar.muli v69 c1_i32_1243
  let v2260 : BitVec 32 := Scalar.addi c0_i32_1244 v2259
  v2260.toNat
def k0_off18 (d0 : Dev nD) (c0_i32_1256 : BitVec 32) : Fin 3 → Nat :=
  let c1_i32_1255 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v2277 : BitVec 32 := Scalar.subi c1_i32_1255 v42
  let v2278 : BitVec 32 := Scalar.addi c0_i32_1256 v2277
  let v2282 : Index := Scalar.indexCast v2278
  let c0_1259 : Index := 0#32
  let c0_1260 : Index := 0#32
  ![v2282.toNat, 0, 0]
def k0_dev9 (d0 : Dev nD) : Nat :=
  let c0_i32_1282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v44 : BitVec 32 := Scalar.muli v19 c4_i32_15
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_1281 : BitVec 32 := 1#32
  let v2313 : BitVec 32 := Scalar.muli v51 c1_i32_1281
  let v2314 : BitVec 32 := Scalar.addi c0_i32_1282 v2313
  v2314.toNat
def k0_off19 (d0 : Dev nD) (c0_i32_1284 : BitVec 32) : Fin 2 → Nat :=
  let c2_i32_1283 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v2319 : BitVec 32 := Scalar.muli c2_i32_1283 v37
  let v2320 : BitVec 32 := Scalar.addi c0_i32_1284 v2319
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v2321 : BitVec 32 := Scalar.addi v42 v37
  let c2_i32_1285 : BitVec 32 := 2#32
  let v2322 : BitVec 32 := Scalar.muli c2_i32_1285 v42
  let v2323 : BitVec 32 := Scalar.muli v2322 v37
  let v2324 : BitVec 32 := Scalar.subi v2321 v2323
  let v2325 : BitVec 32 := Scalar.addi v2320 v2324
  let c256_i32_1286 : BitVec 32 := 256#32
  let v2326 : BitVec 32 := Scalar.muli v2325 c256_i32_1286
  let v2327 : Index := Scalar.indexCast v2326
  let c0_1287 : Index := 0#32
  ![v2327.toNat, 0]
def k0_off20 (d0 : Dev nD) (c0_i32_1284 : BitVec 32) : Fin 2 → Nat :=
  let c2_i32_1283 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v2319 : BitVec 32 := Scalar.muli c2_i32_1283 v37
  let v2320 : BitVec 32 := Scalar.addi c0_i32_1284 v2319
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v2321 : BitVec 32 := Scalar.addi v42 v37
  let c2_i32_1285 : BitVec 32 := 2#32
  let v2322 : BitVec 32 := Scalar.muli c2_i32_1285 v42
  let v2323 : BitVec 32 := Scalar.muli v2322 v37
  let v2324 : BitVec 32 := Scalar.subi v2321 v2323
  let v2325 : BitVec 32 := Scalar.addi v2320 v2324
  let c256_i32_1288 : BitVec 32 := 256#32
  let v2330 : BitVec 32 := Scalar.muli v2325 c256_i32_1288
  let v2331 : Index := Scalar.indexCast v2330
  let c0_1289 : Index := 0#32
  ![v2331.toNat, 0]
def k0_off21 (d0 : Dev nD) (c0_i32_1284 : BitVec 32) : Fin 2 → Nat :=
  let c2_i32_1283 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v2319 : BitVec 32 := Scalar.muli c2_i32_1283 v37
  let v2320 : BitVec 32 := Scalar.addi c0_i32_1284 v2319
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v2321 : BitVec 32 := Scalar.addi v42 v37
  let c2_i32_1285 : BitVec 32 := 2#32
  let v2322 : BitVec 32 := Scalar.muli c2_i32_1285 v42
  let v2323 : BitVec 32 := Scalar.muli v2322 v37
  let v2324 : BitVec 32 := Scalar.subi v2321 v2323
  let v2325 : BitVec 32 := Scalar.addi v2320 v2324
  let c256_i32_1341 : BitVec 32 := 256#32
  let v2428 : BitVec 32 := Scalar.muli v2325 c256_i32_1341
  let v2429 : Index := Scalar.indexCast v2428
  let c0_1342 : Index := 0#32
  ![v2429.toNat, 0]
def k0_off22 (d0 : Dev nD) (c0_i32_1405 : BitVec 32) (c0_i32_1406 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1403 : BitVec 32 := 4#32
  let v2547 : BitVec 32 := Scalar.muli v19 c4_i32_1403
  let c2_i32_1404 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v2548 : BitVec 32 := Scalar.muli c2_i32_1404 v37
  let v2549 : BitVec 32 := Scalar.addi v2547 v2548
  let v2550 : BitVec 32 := Scalar.addi c0_i32_1405 v37
  let v2551 : BitVec 32 := Scalar.muli c0_i32_1406 v37
  let v2552 : BitVec 32 := Scalar.subi v2550 v2551
  let v2553 : BitVec 32 := Scalar.addi v2549 v2552
  let c256_i32_1407 : BitVec 32 := 256#32
  let v2554 : BitVec 32 := Scalar.muli v2553 c256_i32_1407
  let v2555 : Index := Scalar.indexCast v2554
  let c0_1408 : Index := 0#32
  ![v2555.toNat, 0]
def k0_off22_at (r : Fin 2) : BitVec 32 × BitVec 32 :=
  if r.val < 1 then
    (0#32, 0#32)
  else
    (1#32, 2#32)
def k0_off23 (d0 : Dev nD) (c0_i32_1405 : BitVec 32) (c0_i32_1406 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1403 : BitVec 32 := 4#32
  let v2547 : BitVec 32 := Scalar.muli v19 c4_i32_1403
  let c2_i32_1404 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v2548 : BitVec 32 := Scalar.muli c2_i32_1404 v37
  let v2549 : BitVec 32 := Scalar.addi v2547 v2548
  let v2550 : BitVec 32 := Scalar.addi c0_i32_1405 v37
  let v2551 : BitVec 32 := Scalar.muli c0_i32_1406 v37
  let v2552 : BitVec 32 := Scalar.subi v2550 v2551
  let v2553 : BitVec 32 := Scalar.addi v2549 v2552
  let c256_i32_1409 : BitVec 32 := 256#32
  let v2558 : BitVec 32 := Scalar.muli v2553 c256_i32_1409
  let v2559 : Index := Scalar.indexCast v2558
  let c0_1410 : Index := 0#32
  ![v2559.toNat, 0]
def k0_off23_at (r : Fin 2) : BitVec 32 × BitVec 32 :=
  if r.val < 1 then
    (0#32, 0#32)
  else
    (1#32, 2#32)
def k0_off24 (d0 : Dev nD) (c0_i32_1405 : BitVec 32) (c0_i32_1406 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1403 : BitVec 32 := 4#32
  let v2547 : BitVec 32 := Scalar.muli v19 c4_i32_1403
  let c2_i32_1404 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v2548 : BitVec 32 := Scalar.muli c2_i32_1404 v37
  let v2549 : BitVec 32 := Scalar.addi v2547 v2548
  let v2550 : BitVec 32 := Scalar.addi c0_i32_1405 v37
  let v2551 : BitVec 32 := Scalar.muli c0_i32_1406 v37
  let v2552 : BitVec 32 := Scalar.subi v2550 v2551
  let v2553 : BitVec 32 := Scalar.addi v2549 v2552
  let c256_i32_1462 : BitVec 32 := 256#32
  let v2656 : BitVec 32 := Scalar.muli v2553 c256_i32_1462
  let v2657 : Index := Scalar.indexCast v2656
  let c0_1463 : Index := 0#32
  ![v2657.toNat, 0]
def k0_off24_at (r : Fin 2) : BitVec 32 × BitVec 32 :=
  if r.val < 1 then
    (0#32, 0#32)
  else
    (1#32, 2#32)
def k0_off25 (d0 : Dev nD) (c0_i32_1526 : BitVec 32) (c0_i32_1527 : BitVec 32) (c0_i32_1529 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1525 : BitVec 32 := 4#32
  let v2775 : BitVec 32 := Scalar.muli v19 c4_i32_1525
  let v2776 : BitVec 32 := Scalar.addi v2775 c0_i32_1526
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v2777 : BitVec 32 := Scalar.addi v42 c0_i32_1527
  let c2_i32_1528 : BitVec 32 := 2#32
  let v2778 : BitVec 32 := Scalar.muli c2_i32_1528 v42
  let v2779 : BitVec 32 := Scalar.muli v2778 c0_i32_1529
  let v2780 : BitVec 32 := Scalar.subi v2777 v2779
  let v2781 : BitVec 32 := Scalar.addi v2776 v2780
  let c256_i32_1530 : BitVec 32 := 256#32
  let v2782 : BitVec 32 := Scalar.muli v2781 c256_i32_1530
  let v2783 : Index := Scalar.indexCast v2782
  let c0_1531 : Index := 0#32
  ![v2783.toNat, 0]
def k0_off25_at (r : Fin 2) : BitVec 32 × BitVec 32 × BitVec 32 :=
  if r.val < 1 then
    (0#32, 0#32, 0#32)
  else
    (2#32, 1#32, 1#32)
def k0_off26 (d0 : Dev nD) (c0_i32_1526 : BitVec 32) (c0_i32_1527 : BitVec 32) (c0_i32_1529 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1525 : BitVec 32 := 4#32
  let v2775 : BitVec 32 := Scalar.muli v19 c4_i32_1525
  let v2776 : BitVec 32 := Scalar.addi v2775 c0_i32_1526
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v2777 : BitVec 32 := Scalar.addi v42 c0_i32_1527
  let c2_i32_1528 : BitVec 32 := 2#32
  let v2778 : BitVec 32 := Scalar.muli c2_i32_1528 v42
  let v2779 : BitVec 32 := Scalar.muli v2778 c0_i32_1529
  let v2780 : BitVec 32 := Scalar.subi v2777 v2779
  let v2781 : BitVec 32 := Scalar.addi v2776 v2780
  let c256_i32_1532 : BitVec 32 := 256#32
  let v2786 : BitVec 32 := Scalar.muli v2781 c256_i32_1532
  let v2787 : Index := Scalar.indexCast v2786
  let c0_1533 : Index := 0#32
  ![v2787.toNat, 0]
def k0_off26_at (r : Fin 2) : BitVec 32 × BitVec 32 × BitVec 32 :=
  if r.val < 1 then
    (0#32, 0#32, 0#32)
  else
    (2#32, 1#32, 1#32)
def k0_off27 (d0 : Dev nD) (c0_i32_1526 : BitVec 32) (c0_i32_1527 : BitVec 32) (c0_i32_1529 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1525 : BitVec 32 := 4#32
  let v2775 : BitVec 32 := Scalar.muli v19 c4_i32_1525
  let v2776 : BitVec 32 := Scalar.addi v2775 c0_i32_1526
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v2777 : BitVec 32 := Scalar.addi v42 c0_i32_1527
  let c2_i32_1528 : BitVec 32 := 2#32
  let v2778 : BitVec 32 := Scalar.muli c2_i32_1528 v42
  let v2779 : BitVec 32 := Scalar.muli v2778 c0_i32_1529
  let v2780 : BitVec 32 := Scalar.subi v2777 v2779
  let v2781 : BitVec 32 := Scalar.addi v2776 v2780
  let c256_i32_1585 : BitVec 32 := 256#32
  let v2884 : BitVec 32 := Scalar.muli v2781 c256_i32_1585
  let v2885 : Index := Scalar.indexCast v2884
  let c0_1586 : Index := 0#32
  ![v2885.toNat, 0]
def k0_off27_at (r : Fin 2) : BitVec 32 × BitVec 32 × BitVec 32 :=
  if r.val < 1 then
    (0#32, 0#32, 0#32)
  else
    (2#32, 1#32, 1#32)
def k0_off28 (d0 : Dev nD) : Fin 2 → Nat :=
  let c1_i32_1653 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3007 : BitVec 32 := Scalar.subi c1_i32_1653 v19
  let c4_i32_1654 : BitVec 32 := 4#32
  let v3008 : BitVec 32 := Scalar.muli v3007 c4_i32_1654
  let c2_i32_1655 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v3009 : BitVec 32 := Scalar.muli c2_i32_1655 v37
  let v3010 : BitVec 32 := Scalar.addi v3008 v3009
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v3011 : BitVec 32 := Scalar.addi v42 v37
  let c2_i32_1656 : BitVec 32 := 2#32
  let v3012 : BitVec 32 := Scalar.muli c2_i32_1656 v42
  let v3013 : BitVec 32 := Scalar.muli v3012 v37
  let v3014 : BitVec 32 := Scalar.subi v3011 v3013
  let v3015 : BitVec 32 := Scalar.addi v3010 v3014
  let c256_i32_1660 : BitVec 32 := 256#32
  let v3020 : BitVec 32 := Scalar.muli v3015 c256_i32_1660
  let v3021 : Index := Scalar.indexCast v3020
  let c0_1661 : Index := 0#32
  ![v3021.toNat, 0]
def k0_off29 (d0 : Dev nD) : Fin 3 → Nat :=
  let c2_i32_1658 : BitVec 32 := 2#32
  let c1_i32_1657 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3016 : BitVec 32 := Scalar.subi c1_i32_1657 v19
  let v3017 : BitVec 32 := Scalar.muli c2_i32_1658 v3016
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v3018 : BitVec 32 := Scalar.addi v3017 v37
  let v3023 : Index := Scalar.indexCast v3018
  let c0_1662 : Index := 0#32
  let c0_1663 : Index := 0#32
  ![v3023.toNat, 0, 0]
def k0_off30 (d0 : Dev nD) : Fin 3 → Nat :=
  let c1_i32_1659 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3019 : BitVec 32 := Scalar.subi c1_i32_1659 v19
  let v3028 : Index := Scalar.indexCast v3019
  let c0_1664 : Index := 0#32
  let c0_1665 : Index := 0#32
  ![v3028.toNat, 0, 0]
def k0_dev10 (d0 : Dev nD) : Nat :=
  let c0_i32_1672 : BitVec 32 := 0#32
  let c1_i32_22 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v61 : BitVec 32 := Scalar.subi c1_i32_22 v19
  let c4_i32_23 : BitVec 32 := 4#32
  let v62 : BitVec 32 := Scalar.muli v61 c4_i32_23
  let c2_i32_24 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v63 : BitVec 32 := Scalar.muli c2_i32_24 v37
  let v64 : BitVec 32 := Scalar.addi v62 v63
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v65 : BitVec 32 := Scalar.addi v42 v37
  let c2_i32_25 : BitVec 32 := 2#32
  let v66 : BitVec 32 := Scalar.muli c2_i32_25 v42
  let v67 : BitVec 32 := Scalar.muli v66 v37
  let v68 : BitVec 32 := Scalar.subi v65 v67
  let v69 : BitVec 32 := Scalar.addi v64 v68
  let c1_i32_1671 : BitVec 32 := 1#32
  let v3037 : BitVec 32 := Scalar.muli v69 c1_i32_1671
  let v3038 : BitVec 32 := Scalar.addi c0_i32_1672 v3037
  v3038.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1678 : BitVec 32 := 4#32
  let v3048 : BitVec 32 := Scalar.muli v19 c4_i32_1678
  let c2_i32_1679 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v3049 : BitVec 32 := Scalar.muli c2_i32_1679 v37
  let v3050 : BitVec 32 := Scalar.addi v3048 v3049
  let c1_i32_1677 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v3047 : BitVec 32 := Scalar.subi c1_i32_1677 v42
  let v3051 : BitVec 32 := Scalar.addi v3047 v37
  let c2_i32_1680 : BitVec 32 := 2#32
  let v3052 : BitVec 32 := Scalar.muli c2_i32_1680 v3047
  let v3053 : BitVec 32 := Scalar.muli v3052 v37
  let v3054 : BitVec 32 := Scalar.subi v3051 v3053
  let v3055 : BitVec 32 := Scalar.addi v3050 v3054
  let c256_i32_1684 : BitVec 32 := 256#32
  let v3060 : BitVec 32 := Scalar.muli v3055 c256_i32_1684
  let v3061 : Index := Scalar.indexCast v3060
  let c0_1685 : Index := 0#32
  ![v3061.toNat, 0]
def k0_off32 (d0 : Dev nD) : Fin 3 → Nat :=
  let c2_i32_1682 : BitVec 32 := 2#32
  let c1_i32_1681 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v3056 : BitVec 32 := Scalar.subi c1_i32_1681 v42
  let v3057 : BitVec 32 := Scalar.muli c2_i32_1682 v3056
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3058 : BitVec 32 := Scalar.addi v3057 v19
  let v3063 : Index := Scalar.indexCast v3058
  let c0_1686 : Index := 0#32
  let c0_1687 : Index := 0#32
  ![v3063.toNat, 0, 0]
def k0_off33 (d0 : Dev nD) : Fin 3 → Nat :=
  let c1_i32_1683 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v3059 : BitVec 32 := Scalar.subi c1_i32_1683 v42
  let v3068 : Index := Scalar.indexCast v3059
  let c0_1688 : Index := 0#32
  let c0_1689 : Index := 0#32
  ![v3068.toNat, 0, 0]
def k0_dev11 (d0 : Dev nD) : Nat :=
  let c0_i32_1696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v44 : BitVec 32 := Scalar.muli v19 c4_i32_15
  let c2_i32_16 : BitVec 32 := 2#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v45 : BitVec 32 := Scalar.muli c2_i32_16 v37
  let v46 : BitVec 32 := Scalar.addi v44 v45
  let c1_i32_14 : BitVec 32 := 1#32
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v43 : BitVec 32 := Scalar.subi c1_i32_14 v42
  let v47 : BitVec 32 := Scalar.addi v43 v37
  let c2_i32_17 : BitVec 32 := 2#32
  let v48 : BitVec 32 := Scalar.muli c2_i32_17 v43
  let v49 : BitVec 32 := Scalar.muli v48 v37
  let v50 : BitVec 32 := Scalar.subi v47 v49
  let v51 : BitVec 32 := Scalar.addi v46 v50
  let c1_i32_1695 : BitVec 32 := 1#32
  let v3077 : BitVec 32 := Scalar.muli v51 c1_i32_1695
  let v3078 : BitVec 32 := Scalar.addi c0_i32_1696 v3077
  v3078.toNat
def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_1702 : BitVec 32 := 4#32
  let v3088 : BitVec 32 := Scalar.muli v19 c4_i32_1702
  let c2_i32_1703 : BitVec 32 := 2#32
  let c1_i32_1701 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v3087 : BitVec 32 := Scalar.subi c1_i32_1701 v37
  let v3089 : BitVec 32 := Scalar.muli c2_i32_1703 v3087
  let v3090 : BitVec 32 := Scalar.addi v3088 v3089
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v3091 : BitVec 32 := Scalar.addi v42 v3087
  let c2_i32_1704 : BitVec 32 := 2#32
  let v3092 : BitVec 32 := Scalar.muli c2_i32_1704 v42
  let v3093 : BitVec 32 := Scalar.muli v3092 v3087
  let v3094 : BitVec 32 := Scalar.subi v3091 v3093
  let v3095 : BitVec 32 := Scalar.addi v3090 v3094
  let c256_i32_1708 : BitVec 32 := 256#32
  let v3100 : BitVec 32 := Scalar.muli v3095 c256_i32_1708
  let v3101 : Index := Scalar.indexCast v3100
  let c0_1709 : Index := 0#32
  ![v3101.toNat, 0]
def k0_off35 (d0 : Dev nD) : Fin 3 → Nat :=
  let c2_i32_1706 : BitVec 32 := 2#32
  let c1_i32_1705 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v3096 : BitVec 32 := Scalar.subi c1_i32_1705 v37
  let v3097 : BitVec 32 := Scalar.muli c2_i32_1706 v3096
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v3098 : BitVec 32 := Scalar.addi v3097 v42
  let v3103 : Index := Scalar.indexCast v3098
  let c0_1710 : Index := 0#32
  let c0_1711 : Index := 0#32
  ![v3103.toNat, 0, 0]
def k0_off36 (d0 : Dev nD) : Fin 3 → Nat :=
  let c1_i32_1707 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v3099 : BitVec 32 := Scalar.subi c1_i32_1707 v37
  let v3108 : Index := Scalar.indexCast v3099
  let c0_1712 : Index := 0#32
  let c0_1713 : Index := 0#32
  ![v3108.toNat, 0, 0]
def k0_dev12 (d0 : Dev nD) : Nat :=
  let c0_i32_1720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v53 : BitVec 32 := Scalar.muli v19 c4_i32_19
  let c2_i32_20 : BitVec 32 := 2#32
  let c1_i32_18 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v52 : BitVec 32 := Scalar.subi c1_i32_18 v37
  let v54 : BitVec 32 := Scalar.muli c2_i32_20 v52
  let v55 : BitVec 32 := Scalar.addi v53 v54
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v56 : BitVec 32 := Scalar.addi v42 v52
  let c2_i32_21 : BitVec 32 := 2#32
  let v57 : BitVec 32 := Scalar.muli c2_i32_21 v42
  let v58 : BitVec 32 := Scalar.muli v57 v52
  let v59 : BitVec 32 := Scalar.subi v56 v58
  let v60 : BitVec 32 := Scalar.addi v55 v59
  let c1_i32_1719 : BitVec 32 := 1#32
  let v3117 : BitVec 32 := Scalar.muli v60 c1_i32_1719
  let v3118 : BitVec 32 := Scalar.addi c0_i32_1720 v3117
  v3118.toNat
def k0_off37 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1721 : BitVec 32 := 256#32
  let v3123 : BitVec 32 := Scalar.muli v2 c256_i32_1721
  let v3124 : Index := Scalar.indexCast v3123
  let c0_1722 : Index := 0#32
  ![v3124.toNat, 0]
def k0_off38 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1731 : BitVec 32 := 256#32
  let v3136 : BitVec 32 := Scalar.muli v2 c256_i32_1731
  let v3137 : Index := Scalar.indexCast v3136
  let c0_1732 : Index := 0#32
  ![v3137.toNat, 0]
def k0_off39 (d0 : Dev nD) : Fin 3 → Nat :=
  let c2_i32_1730 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3134 : BitVec 32 := Scalar.muli c2_i32_1730 v19
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v3135 : BitVec 32 := Scalar.addi v3134 v37
  let v3139 : Index := Scalar.indexCast v3135
  let c0_1733 : Index := 0#32
  let c0_1734 : Index := 0#32
  ![v3139.toNat, 0, 0]
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3144 : Index := Scalar.indexCast v19
  let c0_1735 : Index := 0#32
  let c0_1736 : Index := 0#32
  ![v3144.toNat, 0, 0]
def k0_off41 (d0 : Dev nD) : Fin 3 → Nat :=
  let c2_i32_1746 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v3160 : BitVec 32 := Scalar.muli c2_i32_1746 v42
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v3161 : BitVec 32 := Scalar.addi v3160 v19
  let v3165 : Index := Scalar.indexCast v3161
  let c0_1749 : Index := 0#32
  let c0_1750 : Index := 0#32
  ![v3165.toNat, 0, 0]
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_12 : BitVec 32 := 2#32
  let v38 : BitVec 32 := Scalar.remsi v20 c2_i32_12
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v3170 : Index := Scalar.indexCast v42
  let c0_1751 : Index := 0#32
  let c0_1752 : Index := 0#32
  ![v3170.toNat, 0, 0]
def k0_off43 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_1763 : BitVec 32 := 256#32
  let v3188 : BitVec 32 := Scalar.muli v2 c256_i32_1763
  let v3189 : Index := Scalar.indexCast v3188
  let c0_1764 : Index := 0#32
  ![v3189.toNat, 0]
def k0_off44 (d0 : Dev nD) : Fin 3 → Nat :=
  let c2_i32_1762 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v3186 : BitVec 32 := Scalar.muli c2_i32_1762 v37
  let c2_i32_12 : BitVec 32 := 2#32
  let v38 : BitVec 32 := Scalar.remsi v20 c2_i32_12
  let v39 : BitVec 32 := Scalar.addi v38 v37
  let c2_i32_13 : BitVec 32 := 2#32
  let v40 : BitVec 32 := Scalar.muli c2_i32_13 v38
  let v41 : BitVec 32 := Scalar.muli v40 v37
  let v42 : BitVec 32 := Scalar.subi v39 v41
  let v3187 : BitVec 32 := Scalar.addi v3186 v42
  let v3191 : Index := Scalar.indexCast v3187
  let c0_1765 : Index := 0#32
  let c0_1766 : Index := 0#32
  ![v3191.toNat, 0, 0]
def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v3196 : Index := Scalar.indexCast v37
  let c0_1767 : Index := 0#32
  let c0_1768 : Index := 0#32
  ![v3196.toNat, 0, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S512x1024 : Shape := ⟨2, ![512, 1024]⟩
abbrev S2048x64 : Shape := ⟨2, ![2048, 64]⟩
abbrev S_ : Shape := ⟨0, ![]⟩
abbrev S2048 : Shape := ⟨1, ![2048]⟩
abbrev S2048x1024 : Shape := ⟨2, ![2048, 1024]⟩
abbrev S2048x1x1 : Shape := ⟨3, ![2048, 1, 1]⟩
abbrev S1 : Shape := ⟨1, ![1]⟩
abbrev S1x1x1 : Shape := ⟨3, ![1, 1, 1]⟩
abbrev S2048x512x1024 : Shape := ⟨3, ![2048, 512, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x1, .i32⟩
  | .hbm, ⟨3, _⟩ => ⟨S64x512x1024, .f32⟩
  | .hbm, ⟨4, _⟩ => ⟨S512x1024, .f32⟩
  | .hbm, ⟨5, _⟩ => ⟨S2048x64, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x64, .f32⟩
  | .hbm, ⟨10, _⟩ => ⟨S2048x64, .f32⟩
  | .hbm, ⟨11, _⟩ => ⟨S2048x64, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x64, .f32⟩
  | .hbm, ⟨16, _⟩ => ⟨S2048x64, .f32⟩
  | .hbm, ⟨17, _⟩ => ⟨S2048x1024, .f32⟩
  | .hbm, ⟨18, _⟩ => ⟨S_, .i32⟩
  | .hbm, ⟨19, _⟩ => ⟨S2048x1, .i32⟩
  | .hbm, ⟨20, _⟩ => ⟨S2048x1, .i1⟩
  | .hbm, ⟨21, _⟩ => ⟨S_, .i32⟩
  | .hbm, ⟨22, _⟩ => ⟨S2048x1, .i32⟩
  | .hbm, ⟨23, _⟩ => ⟨S2048x1, .i32⟩
  | .hbm, ⟨24, _⟩ => ⟨S2048x1, .i32⟩
  | .hbm, ⟨25, _⟩ => ⟨S2048x1x1, .i32⟩
  | .hbm, ⟨26, _⟩ => ⟨S1, .i32⟩
  | .hbm, ⟨27, _⟩ => ⟨S_, .i32⟩
  | .hbm, ⟨28, _⟩ => ⟨S2048x1x1, .i32⟩
  | .hbm, ⟨29, _⟩ => ⟨S2048x1x1, .i1⟩
  | .hbm, ⟨30, _⟩ => ⟨S1x1x1, .i32⟩
  | .hbm, ⟨31, _⟩ => ⟨S2048x1x1, .i32⟩
  | .hbm, ⟨32, _⟩ => ⟨S2048x1x1, .i1⟩
  | .hbm, ⟨33, _⟩ => ⟨S2048x1x1, .i1⟩
  | .hbm, ⟨34, _⟩ => ⟨S_, .i1⟩
  | .hbm, ⟨35, _⟩ => ⟨S2048x1, .i1⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S2048x512x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩

abbrev nD : Nat := 1
abbrev τ : Topo := Topo.v7x

variable {F : FTy → Type} [FloatOps F]
-- ==== Proof.Cube.lean ====
/-
The cube of eight devices: which device is whose partner in each of the three directions, which rows of the
result each message slot belongs to, and that the kernel's own device and row computations name exactly these.
-/
module

public import proofs.«01_k».proof.Proof.Gen.KernelIdeal

@[expose] public section

noncomputable section

namespace Cert.CubeProof

open Cert.KernelIdeal Cert.KernelIdeal.Gen

open Idealize.ShloMosaic

/-- The device that differs from `c` in direction `d` of the cube. -/
def flip (d : Fin 3) (c : Dev nD) : Dev nD :=
  match d with
  | 0 => (![1, 0, 3, 2, 5, 4, 7, 6] : Fin 8 → Dev nD) c
  | 1 => (![3, 2, 1, 0, 7, 6, 5, 4] : Fin 8 → Dev nD) c
  | 2 => (![4, 5, 6, 7, 0, 1, 2, 3] : Fin 8 → Dev nD) c

theorem flip_flip (d : Fin 3) (c : Dev nD) : flip d (flip d c) = c := by revert d c; decide
theorem flip_ne (d : Fin 3) (c : Dev nD) : flip d c ≠ c := by revert d c; decide

/-- A direction's exchange of partners. -/
def swap (d : Fin 3) : Dev nD ≃ Dev nD := ⟨flip d, flip d, flip_flip d, flip_flip d⟩

/-- Device `c`'s coordinate in direction `d`. -/
def bit (d : Fin 3) (c : Dev nD) : Fin 2 :=
  match d with
  | 0 => (![0, 1, 1, 0, 0, 1, 1, 0] : Fin 8 → Fin 2) c
  | 1 => (![0, 0, 1, 1, 0, 0, 1, 1] : Fin 8 → Fin 2) c
  | 2 => (![0, 0, 0, 0, 1, 1, 1, 1] : Fin 8 → Fin 2) c

/-- The device at three coordinates, which is also the number of its chunk of rows. -/
def pos (x y z : Fin 2) : Fin 8 := ⟨4 * z.val + 2 * y.val + (x.val + y.val) % 2, by omega⟩

/-- The three column sections exchange along the directions in a rotated order: the `j`-th exchange of section `t` goes
    along direction `t + j`. -/
def dirOf (t j : Fin 3) : Fin 3 := t + j

/-- The chunk at coordinates `a`, `b`, `e` along section `t`'s first, second and third direction. -/
def chunk (t : Fin 3) (a b e : Fin 2) : Fin 8 :=
  match t with
  | 0 => pos a b e
  | 1 => pos e a b
  | 2 => pos b e a

/-- The other coordinate. -/
def opp (a : Fin 2) : Fin 2 := (![1, 0] : Fin 2 → Fin 2) a

/-- Device `c`'s coordinate along section `t`'s `j`-th direction. -/
def cd (t j : Fin 3) (c : Dev nD) : Fin 2 := bit (dirOf t j) c

/-- Slot numbers of the first message: third coordinate, then second. -/
def slot4 (e b : Fin 2) : Fin 4 := ⟨2 * e.val + b.val, by omega⟩

/-- The chunk that slot `s` of device `c`'s first message of section `t` belongs to: across the first direction. -/
def q1 (t : Fin 3) (c : Dev nD) (s : Fin 4) : Fin 8 :=
  chunk t (opp (cd t 0 c)) ((![0, 1, 0, 1] : Fin 4 → Fin 2) s) ((![0, 0, 1, 1] : Fin 4 → Fin 2) s)
/-- The chunk of slot `v` of its second message: on `c`'s side of the first direction, across the second. -/
def q2 (t : Fin 3) (c : Dev nD) (v : Fin 2) : Fin 8 := chunk t (cd t 0 c) (opp (cd t 1 c)) v
/-- The two chunks on `c`'s side of the first two directions. -/
def q3 (t : Fin 3) (c : Dev nD) (v : Fin 2) : Fin 8 := chunk t (cd t 0 c) (cd t 1 c) v

theorem q2_ne (t : Fin 3) (c : Dev nD) : q2 t c 0 ≠ q2 t c 1 := by revert t c; decide
theorem q3_ne (t : Fin 3) (c : Dev nD) : q3 t c 0 ≠ q3 t c 1 := by revert t c; decide
theorem q3_own (t : Fin 3) (c : Dev nD) : q3 t c (cd t 2 c) = c := by revert t c; decide

/-- Where the partner across the first direction put the chunk of slot `v` of `c`'s second message. -/
def s12 (t : Fin 3) (c : Dev nD) (v : Fin 2) : Fin 4 := slot4 v (opp (cd t 1 c))
/-- Where it put the chunk of `c`'s third message; where the partner across the second direction put it. -/
def s13 (t : Fin 3) (c : Dev nD) : Fin 4 := slot4 (opp (cd t 2 c)) (cd t 1 c)
def s23 (t : Fin 3) (c : Dev nD) : Fin 2 := opp (cd t 2 c)
/-- Where the two put `c`'s own chunk. -/
def s1o (t : Fin 3) (c : Dev nD) : Fin 4 := slot4 (cd t 2 c) (cd t 1 c)
def s2o (t : Fin 3) (c : Dev nD) : Fin 2 := cd t 2 c

theorem q1_s12 (t : Fin 3) (c : Dev nD) (v : Fin 2) : q1 t (flip (dirOf t 0) c) (s12 t c v) = q2 t c v := by revert t c v; decide
theorem q1_s13 (t : Fin 3) (c : Dev nD) : q1 t (flip (dirOf t 0) c) (s13 t c) = q3 t c (s23 t c) := by revert t c; decide
theorem q2_s23 (t : Fin 3) (c : Dev nD) : q2 t (flip (dirOf t 1) c) (s23 t c) = q3 t c (s23 t c) := by revert t c; decide
theorem q1_s1o (t : Fin 3) (c : Dev nD) : q1 t (flip (dirOf t 0) c) (s1o t c) = c := by revert t c; decide
theorem q2_s2o (t : Fin 3) (c : Dev nD) : q2 t (flip (dirOf t 1) c) (s2o t c) = c := by revert t c; decide
theorem q3_s3o (t : Fin 3) (c : Dev nD) : q3 t (flip (dirOf t 2) c) (s23 t (flip (dirOf t 2) c)) = c := by revert t c; decide

/-- A device is reached from another by crossing some of the three directions, in one way. -/
theorem sum_devices {M : Type} [AddCommMonoid M] (t : Fin 3) (c : Dev nD) (f : Dev nD → M) :
    ∑ d, f d = f c + f (flip (dirOf t 0) c) + (f (flip (dirOf t 1) c) + f (flip (dirOf t 0) (flip (dirOf t 1) c)))
      + ((f (flip (dirOf t 2) c) + f (flip (dirOf t 0) (flip (dirOf t 2) c)))
        + (f (flip (dirOf t 1) (flip (dirOf t 2) c)) + f (flip (dirOf t 0) (flip (dirOf t 1) (flip (dirOf t 2) c))))) := by
  have h : ∀ (t : Fin 3) (c : Dev nD), (Finset.univ : Finset (Dev nD)).val = ([c, flip (dirOf t 0) c, flip (dirOf t 1) c, flip (dirOf t 0) (flip (dirOf t 1) c),
      flip (dirOf t 2) c, flip (dirOf t 0) (flip (dirOf t 2) c), flip (dirOf t 1) (flip (dirOf t 2) c),
      flip (dirOf t 0) (flip (dirOf t 1) (flip (dirOf t 2) c))] : Multiset (Dev nD)) := by decide
  rw [Finset.sum_eq_multiset_sum, h t c]
  simp only [Multiset.map_coe, List.map_cons, List.map_nil, Multiset.sum_coe, List.sum_cons, List.sum_nil, add_zero]
  simp only [add_assoc]

/-! ## The kernel's own device numbers -/

theorem dev1_eq (c : Dev nD) : (⟨k0_dev1 c, k0_dev1_lt c⟩ : Dev nD) = flip 0 c := by revert c; decide +kernel
theorem dev2_eq (c : Dev nD) : (⟨k0_dev2 c, k0_dev2_lt c⟩ : Dev nD) = flip 1 c := by revert c; decide +kernel
theorem dev3_eq (c : Dev nD) : (⟨k0_dev3 c, k0_dev3_lt c⟩ : Dev nD) = flip 2 c := by revert c; decide +kernel
theorem dev4_eq (c : Dev nD) : (⟨k0_dev4 c, k0_dev4_lt c⟩ : Dev nD) = flip 0 c := by revert c; decide +kernel
theorem dev5_eq (c : Dev nD) : (⟨k0_dev5 c, k0_dev5_lt c⟩ : Dev nD) = flip 1 c := by revert c; decide +kernel
theorem dev6_eq (c : Dev nD) : (⟨k0_dev6 c, k0_dev6_lt c⟩ : Dev nD) = flip 2 c := by revert c; decide +kernel
theorem dev7_eq (c : Dev nD) : (⟨k0_dev7 c, k0_dev7_lt c⟩ : Dev nD) = flip 1 c := by revert c; decide +kernel
theorem dev8_eq (c : Dev nD) : (⟨k0_dev8 c, k0_dev8_lt c⟩ : Dev nD) = flip 2 c := by revert c; decide +kernel
theorem dev9_eq (c : Dev nD) : (⟨k0_dev9 c, k0_dev9_lt c⟩ : Dev nD) = flip 0 c := by revert c; decide +kernel
theorem dev10_eq (c : Dev nD) : (⟨k0_dev10 c, k0_dev10_lt c⟩ : Dev nD) = flip 2 c := by revert c; decide +kernel
theorem dev11_eq (c : Dev nD) : (⟨k0_dev11 c, k0_dev11_lt c⟩ : Dev nD) = flip 0 c := by revert c; decide +kernel
theorem dev12_eq (c : Dev nD) : (⟨k0_dev12 c, k0_dev12_lt c⟩ : Dev nD) = flip 1 c := by revert c; decide +kernel

/-! ## The kernel's own rows and slots -/

theorem off1_0 (c : Dev nD) : k0_off1 c 0#32 0#32 0#32 = ![256 * (q1 0 c 0).val, 0] := by revert c; decide +kernel
theorem off2_0 (c : Dev nD) : k0_off2 c 0#32 0#32 0#32 = ![256 * (q1 0 c 0).val, 0] := by revert c; decide +kernel
theorem off1_1 (c : Dev nD) : k0_off1 c 2#32 1#32 1#32 = ![256 * (q1 0 c 1).val, 0] := by revert c; decide +kernel
theorem off2_1 (c : Dev nD) : k0_off2 c 2#32 1#32 1#32 = ![256 * (q1 0 c 1).val, 0] := by revert c; decide +kernel
theorem off1_2 (c : Dev nD) : k0_off1 c 4#32 0#32 0#32 = ![256 * (q1 0 c 2).val, 0] := by revert c; decide +kernel
theorem off2_2 (c : Dev nD) : k0_off2 c 4#32 0#32 0#32 = ![256 * (q1 0 c 2).val, 0] := by revert c; decide +kernel
theorem off1_3 (c : Dev nD) : k0_off1 c 6#32 1#32 1#32 = ![256 * (q1 0 c 3).val, 0] := by revert c; decide +kernel
theorem off2_3 (c : Dev nD) : k0_off2 c 6#32 1#32 1#32 = ![256 * (q1 0 c 3).val, 0] := by revert c; decide +kernel
theorem off3_0 (c : Dev nD) : k0_off3 c 0#32 0#32 0#32 = ![256 * (q1 1 c 0).val, 0] := by revert c; decide +kernel
theorem off4_0 (c : Dev nD) : k0_off4 c 0#32 0#32 0#32 = ![256 * (q1 1 c 0).val, 0] := by revert c; decide +kernel
theorem off3_1 (c : Dev nD) : k0_off3 c 4#32 0#32 0#32 = ![256 * (q1 1 c 1).val, 0] := by revert c; decide +kernel
theorem off4_1 (c : Dev nD) : k0_off4 c 4#32 0#32 0#32 = ![256 * (q1 1 c 1).val, 0] := by revert c; decide +kernel
theorem off3_2 (c : Dev nD) : k0_off3 c 0#32 1#32 2#32 = ![256 * (q1 1 c 2).val, 0] := by revert c; decide +kernel
theorem off4_2 (c : Dev nD) : k0_off4 c 0#32 1#32 2#32 = ![256 * (q1 1 c 2).val, 0] := by revert c; decide +kernel
theorem off3_3 (c : Dev nD) : k0_off3 c 4#32 1#32 2#32 = ![256 * (q1 1 c 3).val, 0] := by revert c; decide +kernel
theorem off4_3 (c : Dev nD) : k0_off4 c 4#32 1#32 2#32 = ![256 * (q1 1 c 3).val, 0] := by revert c; decide +kernel
theorem off5_0 (c : Dev nD) : k0_off5 c 0#32 0#32 = ![256 * (q1 2 c 0).val, 0] := by revert c; decide +kernel
theorem off6_0 (c : Dev nD) : k0_off6 c 0#32 0#32 = ![256 * (q1 2 c 0).val, 0] := by revert c; decide +kernel
theorem off5_1 (c : Dev nD) : k0_off5 c 0#32 1#32 = ![256 * (q1 2 c 1).val, 0] := by revert c; decide +kernel
theorem off6_1 (c : Dev nD) : k0_off6 c 0#32 1#32 = ![256 * (q1 2 c 1).val, 0] := by revert c; decide +kernel
theorem off5_2 (c : Dev nD) : k0_off5 c 2#32 1#32 = ![256 * (q1 2 c 2).val, 0] := by revert c; decide +kernel
theorem off6_2 (c : Dev nD) : k0_off6 c 2#32 1#32 = ![256 * (q1 2 c 2).val, 0] := by revert c; decide +kernel
theorem off5_3 (c : Dev nD) : k0_off5 c 2#32 0#32 = ![256 * (q1 2 c 3).val, 0] := by revert c; decide +kernel
theorem off6_3 (c : Dev nD) : k0_off6 c 2#32 0#32 = ![256 * (q1 2 c 3).val, 0] := by revert c; decide +kernel
theorem off7_0 (c : Dev nD) : k0_off7 c 0#32 = ![256 * (q2 0 c 0).val, 0] := by revert c; decide +kernel
theorem off8_0 (c : Dev nD) : k0_off8 c 0#32 = ![256 * (q2 0 c 0).val, 0] := by revert c; decide +kernel
theorem off9_0 (c : Dev nD) : k0_off9 c 0#32 = ![256 * (q2 0 c 0).val, 0] := by revert c; decide +kernel
theorem off7_1 (c : Dev nD) : k0_off7 c 4#32 = ![256 * (q2 0 c 1).val, 0] := by revert c; decide +kernel
theorem off8_1 (c : Dev nD) : k0_off8 c 4#32 = ![256 * (q2 0 c 1).val, 0] := by revert c; decide +kernel
theorem off9_1 (c : Dev nD) : k0_off9 c 4#32 = ![256 * (q2 0 c 1).val, 0] := by revert c; decide +kernel
theorem off10_0 (c : Dev nD) : k0_off10 c 0#32 0#32 = ![256 * (q2 1 c 0).val, 0] := by revert c; decide +kernel
theorem off11_0 (c : Dev nD) : k0_off11 c 0#32 0#32 = ![256 * (q2 1 c 0).val, 0] := by revert c; decide +kernel
theorem off12_0 (c : Dev nD) : k0_off12 c 0#32 0#32 = ![256 * (q2 1 c 0).val, 0] := by revert c; decide +kernel
theorem off10_1 (c : Dev nD) : k0_off10 c 1#32 2#32 = ![256 * (q2 1 c 1).val, 0] := by revert c; decide +kernel
theorem off11_1 (c : Dev nD) : k0_off11 c 1#32 2#32 = ![256 * (q2 1 c 1).val, 0] := by revert c; decide +kernel
theorem off12_1 (c : Dev nD) : k0_off12 c 1#32 2#32 = ![256 * (q2 1 c 1).val, 0] := by revert c; decide +kernel
theorem off13_0 (c : Dev nD) : k0_off13 c 0#32 0#32 0#32 = ![256 * (q2 2 c 0).val, 0] := by revert c; decide +kernel
theorem off14_0 (c : Dev nD) : k0_off14 c 0#32 0#32 0#32 = ![256 * (q2 2 c 0).val, 0] := by revert c; decide +kernel
theorem off15_0 (c : Dev nD) : k0_off15 c 0#32 0#32 0#32 = ![256 * (q2 2 c 0).val, 0] := by revert c; decide +kernel
theorem off13_1 (c : Dev nD) : k0_off13 c 2#32 1#32 1#32 = ![256 * (q2 2 c 1).val, 0] := by revert c; decide +kernel
theorem off14_1 (c : Dev nD) : k0_off14 c 2#32 1#32 1#32 = ![256 * (q2 2 c 1).val, 0] := by revert c; decide +kernel
theorem off15_1 (c : Dev nD) : k0_off15 c 2#32 1#32 1#32 = ![256 * (q2 2 c 1).val, 0] := by revert c; decide +kernel
theorem off16_0 (c : Dev nD) : k0_off16 c 0#32 = ![(s12 0 c 0).val, 0, 0] := by revert c; decide +kernel
theorem off16_1 (c : Dev nD) : k0_off16 c 2#32 = ![(s12 0 c 1).val, 0, 0] := by revert c; decide +kernel
theorem off17_0 (c : Dev nD) : k0_off17 c 0#32 = ![(s12 1 c 0).val, 0, 0] := by revert c; decide +kernel
theorem off17_1 (c : Dev nD) : k0_off17 c 2#32 = ![(s12 1 c 1).val, 0, 0] := by revert c; decide +kernel
theorem off18_0 (c : Dev nD) : k0_off18 c 0#32 = ![(s12 2 c 0).val, 0, 0] := by revert c; decide +kernel
theorem off18_1 (c : Dev nD) : k0_off18 c 2#32 = ![(s12 2 c 1).val, 0, 0] := by revert c; decide +kernel
theorem off19_0 (c : Dev nD) : k0_off19 c 0#32 = ![256 * (q3 0 c 0).val, 0] := by revert c; decide +kernel
theorem off20_0 (c : Dev nD) : k0_off20 c 0#32 = ![256 * (q3 0 c 0).val, 0] := by revert c; decide +kernel
theorem off21_0 (c : Dev nD) : k0_off21 c 0#32 = ![256 * (q3 0 c 0).val, 0] := by revert c; decide +kernel
theorem off19_1 (c : Dev nD) : k0_off19 c 4#32 = ![256 * (q3 0 c 1).val, 0] := by revert c; decide +kernel
theorem off20_1 (c : Dev nD) : k0_off20 c 4#32 = ![256 * (q3 0 c 1).val, 0] := by revert c; decide +kernel
theorem off21_1 (c : Dev nD) : k0_off21 c 4#32 = ![256 * (q3 0 c 1).val, 0] := by revert c; decide +kernel
theorem off22_0 (c : Dev nD) : k0_off22 c 0#32 0#32 = ![256 * (q3 1 c 0).val, 0] := by revert c; decide +kernel
theorem off23_0 (c : Dev nD) : k0_off23 c 0#32 0#32 = ![256 * (q3 1 c 0).val, 0] := by revert c; decide +kernel
theorem off24_0 (c : Dev nD) : k0_off24 c 0#32 0#32 = ![256 * (q3 1 c 0).val, 0] := by revert c; decide +kernel
theorem off22_1 (c : Dev nD) : k0_off22 c 1#32 2#32 = ![256 * (q3 1 c 1).val, 0] := by revert c; decide +kernel
theorem off23_1 (c : Dev nD) : k0_off23 c 1#32 2#32 = ![256 * (q3 1 c 1).val, 0] := by revert c; decide +kernel
theorem off24_1 (c : Dev nD) : k0_off24 c 1#32 2#32 = ![256 * (q3 1 c 1).val, 0] := by revert c; decide +kernel
theorem off25_0 (c : Dev nD) : k0_off25 c 0#32 0#32 0#32 = ![256 * (q3 2 c 0).val, 0] := by revert c; decide +kernel
theorem off26_0 (c : Dev nD) : k0_off26 c 0#32 0#32 0#32 = ![256 * (q3 2 c 0).val, 0] := by revert c; decide +kernel
theorem off27_0 (c : Dev nD) : k0_off27 c 0#32 0#32 0#32 = ![256 * (q3 2 c 0).val, 0] := by revert c; decide +kernel
theorem off25_1 (c : Dev nD) : k0_off25 c 2#32 1#32 1#32 = ![256 * (q3 2 c 1).val, 0] := by revert c; decide +kernel
theorem off26_1 (c : Dev nD) : k0_off26 c 2#32 1#32 1#32 = ![256 * (q3 2 c 1).val, 0] := by revert c; decide +kernel
theorem off27_1 (c : Dev nD) : k0_off27 c 2#32 1#32 1#32 = ![256 * (q3 2 c 1).val, 0] := by revert c; decide +kernel
theorem off28_0 (c : Dev nD) : k0_off28 c  = ![256 * (q3 0 c (s23 0 c)).val, 0] := by revert c; decide +kernel
theorem off29_0 (c : Dev nD) : k0_off29 c  = ![(s13 0 c).val, 0, 0] := by revert c; decide +kernel
theorem off30_0 (c : Dev nD) : k0_off30 c  = ![(s23 0 c).val, 0, 0] := by revert c; decide +kernel
theorem off31_0 (c : Dev nD) : k0_off31 c  = ![256 * (q3 1 c (s23 1 c)).val, 0] := by revert c; decide +kernel
theorem off32_0 (c : Dev nD) : k0_off32 c  = ![(s13 1 c).val, 0, 0] := by revert c; decide +kernel
theorem off33_0 (c : Dev nD) : k0_off33 c  = ![(s23 1 c).val, 0, 0] := by revert c; decide +kernel
theorem off34_0 (c : Dev nD) : k0_off34 c  = ![256 * (q3 2 c (s23 2 c)).val, 0] := by revert c; decide +kernel
theorem off35_0 (c : Dev nD) : k0_off35 c  = ![(s13 2 c).val, 0, 0] := by revert c; decide +kernel
theorem off36_0 (c : Dev nD) : k0_off36 c  = ![(s23 2 c).val, 0, 0] := by revert c; decide +kernel
theorem off37_0 (c : Dev nD) : k0_off37 c = ![256 * c.val, 0] := by revert c; decide +kernel
theorem off38_0 (c : Dev nD) : k0_off38 c = ![256 * c.val, 0] := by revert c; decide +kernel
theorem off43_0 (c : Dev nD) : k0_off43 c = ![256 * c.val, 0] := by revert c; decide +kernel
theorem off39_0 (c : Dev nD) : k0_off39 c  = ![(s1o 0 c).val, 0, 0] := by revert c; decide +kernel
theorem off40_0 (c : Dev nD) : k0_off40 c  = ![(s2o 0 c).val, 0, 0] := by revert c; decide +kernel
theorem off41_0 (c : Dev nD) : k0_off41 c  = ![(s1o 1 c).val, 0, 0] := by revert c; decide +kernel
theorem off42_0 (c : Dev nD) : k0_off42 c  = ![(s2o 1 c).val, 0, 0] := by revert c; decide +kernel
theorem off44_0 (c : Dev nD) : k0_off44 c  = ![(s1o 2 c).val, 0, 0] := by revert c; decide +kernel
theorem off45_0 (c : Dev nD) : k0_off45 c  = ![(s2o 2 c).val, 0, 0] := by revert c; decide +kernel

end Cert.CubeProof
end
-- ==== Proof.Values.lean ====
/-
The contents that the kernel computes on each device, for any float values: the routed probabilities, the device's
experts in half precision, its partial products for each chunk of rows in each of the three column sections, and the
messages it sends. The messages are given slot by slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Cube
public import Idealize.ShloMosaic.Lib.VecWindow
public import Idealize.ShloMosaic.Lib.WritesUnit
public import Idealize.ShloMosaic.Lib.Pipeline.Value
public import Idealize.ShloMosaic.Lib.Pipeline.Launch
public import Idealize.ShloMosaic.Lib.Pipeline.Kit
public import Idealize.ShloMosaic.Lib.Tactic

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## The staged inputs -/

def st0 (c : Dev nD) : (cc0_stg0_0 : Ref sig .tc).ty.Contents (Elt F) :=
  (win0_0.blk (0 : Fin 1)).view.read (Elt F) ((s₀ m ρ).mem ((c : Thread nD τ).loc main_arg0))
def st1 (c : Dev nD) : (cc0_stg1_0 : Ref sig .tc).ty.Contents (Elt F) :=
  (win0_1.blk (0 : Fin 1)).view.read (Elt F) ((s₀ m ρ).mem ((c : Thread nD τ).loc main_arg1))
def st2 (c : Dev nD) : (cc0_stg2_0 : Ref sig .tc).ty.Contents (Elt F) :=
  (win0_2.blk (0 : Fin 1)).view.read (Elt F) ((s₀ m ρ).mem ((c : Thread nD τ).loc main_arg2))
def st3 (c : Dev nD) : (cc0_stg3_0 : Ref sig .tc).ty.Contents (Elt F) :=
  (win0_3.blk (0 : Fin 1)).view.read (Elt F) ((s₀ m ρ).mem ((c : Thread nD τ).loc main_arg3))
def st4 (c : Dev nD) : (cc0_stg4_0 : Ref sig .tc).ty.Contents (Elt F) :=
  (win0_4.blk (0 : Fin 1)).view.read (Elt F) ((s₀ m ρ).mem ((c : Thread nD τ).loc main_arg4))

/-! ## Rows and slots -/

theorem rows_inb {n w : ℕ} (q : Fin 8) : ∀ a : Fin 2, (![256 * q.val, 0] : Fin 2 → ℕ) a + (⟨2, ![256, w]⟩ : Shape).size a ≤ (⟨2, ![2048, w]⟩ : Shape).size a := by
  have := q.isLt
  intro a; fin_cases a <;> simp <;> omega

theorem slot_inb {n a b : ℕ} (s : Fin n) : ∀ x : Fin 3, (![s.val, 0, 0] : Fin 3 → ℕ) x + (⟨3, ![1, a, b]⟩ : Shape).size x ≤ (⟨3, ![n, a, b]⟩ : Shape).size x := by
  have := s.isLt
  intro x; fin_cases x <;> simp <;> omega

/-- Chunk `q` of the rows of a buffer of 2048 rows. -/
abbrev rowsOf {α : Type} {w : ℕ} (f : (⟨2, ![2048, w]⟩ : Shape).Idx → α) (q : Fin 8) : (⟨2, ![256, w]⟩ : Shape).Idx → α :=
  VecWindow.window f ![256 * q.val, 0] (⟨2, ![256, w]⟩ : Shape).size (rows_inb (n := 0) q)

/-- Slot `s` of a buffer of `n` slots. -/
abbrev slotOf {α : Type} {n a b : ℕ} (f : (⟨3, ![n, a, b]⟩ : Shape).Idx → α) (s : Fin n) : (⟨3, ![1, a, b]⟩ : Shape).Idx → α :=
  VecWindow.window f ![s.val, 0, 0] (⟨3, ![1, a, b]⟩ : Shape).size (slot_inb s)

/-! ## The partial products -/

/-- The product with local expert `j`'s columns of the rows routed to it; `v2` is the device's number. -/
def term384 (v2 : BitVec 32) (idc : Vec F S256x1 .i32) (xp : FVec F S256x512 .bf16) (j : BitVec 32) (w : Vec F S1x512x384 .bf16) : FVec F S256x384 .f32 :=
  matmul dot_S256x512_S512x384_S256x384_1_0_0_1_n_n none
    (select (broadcastTo S256x512 (shapeCast S256x1 (cmpi .eq (shapeCast S256x1 idc shapeCasts_S256x1_S256x1)
        (broadcast S256x1 (Scalar.addi (Scalar.muli v2 8#32) j))) shapeCasts_S256x1_S256x1) broadcasts_S256x1_S256x512)
      xp (broadcast S256x512 (Scalar.ofBits .bf16 0x0000#16)))
    (shapeCast S512x384 w shapeCasts_S1x512x384_S512x384) (constant S256x384 .f32 0x00000000#32)

/-- The product with local expert `j`'s columns of the rows routed to it; `v2` is the device's number. -/
def term256 (v2 : BitVec 32) (idc : Vec F S256x1 .i32) (xp : FVec F S256x512 .bf16) (j : BitVec 32) (w : Vec F S1x512x256 .bf16) : FVec F S256x256 .f32 :=
  matmul dot_S256x512_S512x256_S256x256_1_0_0_1_n_n none
    (select (broadcastTo S256x512 (shapeCast S256x1 (cmpi .eq (shapeCast S256x1 idc shapeCasts_S256x1_S256x1)
        (broadcast S256x1 (Scalar.addi (Scalar.muli v2 8#32) j))) shapeCasts_S256x1_S256x1) broadcasts_S256x1_S256x512)
      xp (broadcast S256x512 (Scalar.ofBits .bf16 0x0000#16)))
    (shapeCast S512x256 w shapeCasts_S1x512x256_S512x256) (constant S256x256 .f32 0x00000000#32)

/-- The rows weighted by their routed probabilities, in half precision. -/
def scaled (xc : Vec F S256x512 .f32) (pc : Vec F S256x1 .f32) : FVec F S256x512 .bf16 :=
  truncf .bf16 (mulf (shapeCast S256x512 xc shapeCasts_S256x512_S256x512) (broadcastTo S256x512 pc broadcasts_S256x1_S256x512)) bitsLt_bf16_f32

/-- A device's partial product for one chunk of rows: the sum over its eight experts. -/
def part384 (v2 : BitVec 32) (xc : Vec F S256x512 .f32) (idc : Vec F S256x1 .i32) (pc : Vec F S256x1 .f32) (w : Fin 8 → Vec F S1x512x384 .bf16) :
    FVec F S256x384 .f32 :=
  addf (addf (addf (addf (addf (addf (addf (term384 v2 idc (scaled xc pc) 0#32 (w 0))
    (term384 v2 idc (scaled xc pc) 1#32 (w 1)))
    (term384 v2 idc (scaled xc pc) 2#32 (w 2)))
    (term384 v2 idc (scaled xc pc) 3#32 (w 3)))
    (term384 v2 idc (scaled xc pc) 4#32 (w 4)))
    (term384 v2 idc (scaled xc pc) 5#32 (w 5)))
    (term384 v2 idc (scaled xc pc) 6#32 (w 6)))
    (term384 v2 idc (scaled xc pc) 7#32 (w 7))

/-- A device's partial product for one chunk of rows: the sum over its eight experts. -/
def part256 (v2 : BitVec 32) (xc : Vec F S256x512 .f32) (idc : Vec F S256x1 .i32) (pc : Vec F S256x1 .f32) (w : Fin 8 → Vec F S1x512x256 .bf16) :
    FVec F S256x256 .f32 :=
  addf (addf (addf (addf (addf (addf (addf (term256 v2 idc (scaled xc pc) 0#32 (w 0))
    (term256 v2 idc (scaled xc pc) 1#32 (w 1)))
    (term256 v2 idc (scaled xc pc) 2#32 (w 2)))
    (term256 v2 idc (scaled xc pc) 3#32 (w 3)))
    (term256 v2 idc (scaled xc pc) 4#32 (w 4)))
    (term256 v2 idc (scaled xc pc) 5#32 (w 5)))
    (term256 v2 idc (scaled xc pc) 6#32 (w 6)))
    (term256 v2 idc (scaled xc pc) 7#32 (w 7))

/-- The routed probabilities that device `c` computes, and its experts in half precision. -/
def ptok (c : Dev nD) : (cc0_scratch0 : Ref sig .tc).ty.Contents (Elt F) := k0_pay1 (st0 m ρ c) (st1 m ρ c) (st2 m ρ c)
def ew (c : Dev nD) : (cc0_scratch1 : Ref sig .tc).ty.Contents (Elt F) := k0_pay2 (st3 m ρ c)

/-- The device's number as the kernel computes it. -/
def pw (c : Dev nD) : BitVec 32 := Scalar.remsi (Scalar.divsi (Dev.word c) 1#32) 8#32

theorem wcols384_inb (j : Fin 8) (o : ℕ) (h : o + 384 ≤ 1024) : ∀ x : Fin 3, (![j.val, 0, o] : Fin 3 → ℕ) x + S1x512x384.size x ≤ S8x512x1024.size x := by
  have := j.isLt
  intro x; fin_cases x <;> simp <;> omega

/-- Columns `o` onwards of local expert `j`. -/
def wcols384 (f : (cc0_scratch1 : Ref sig .tc).ty.Contents (Elt F)) (o : ℕ) (h : o + 384 ≤ 1024) (j : Fin 8) : Vec F S1x512x384 .bf16 :=
  VecWindow.window f ![j.val, 0, o] S1x512x384.size (wcols384_inb j o h)

theorem wcols256_inb (j : Fin 8) (o : ℕ) (h : o + 256 ≤ 1024) : ∀ x : Fin 3, (![j.val, 0, o] : Fin 3 → ℕ) x + S1x512x256.size x ≤ S8x512x1024.size x := by
  have := j.isLt
  intro x; fin_cases x <;> simp <;> omega

/-- Columns `o` onwards of local expert `j`. -/
def wcols256 (f : (cc0_scratch1 : Ref sig .tc).ty.Contents (Elt F)) (o : ℕ) (h : o + 256 ≤ 1024) (j : Fin 8) : Vec F S1x512x256 .bf16 :=
  VecWindow.window f ![j.val, 0, o] S1x512x256.size (wcols256_inb j o h)

/-- Device `c`'s partial product for chunk `q` in each column section. -/
def partA (c : Dev nD) (q : Fin 8) : FVec F S256x384 .f32 :=
  part384 (pw c) (rowsOf (st0 m ρ c) q) (rowsOf (st2 m ρ c) q) (rowsOf (ptok m ρ c) q) (wcols384 (ew m ρ c) 0 (by decide))
def partB (c : Dev nD) (q : Fin 8) : FVec F S256x384 .f32 :=
  part384 (pw c) (rowsOf (st0 m ρ c) q) (rowsOf (st2 m ρ c) q) (rowsOf (ptok m ρ c) q) (wcols384 (ew m ρ c) 384 (by decide))
def partC (c : Dev nD) (q : Fin 8) : FVec F S256x256 .f32 :=
  part256 (pw c) (rowsOf (st0 m ρ c) q) (rowsOf (st2 m ρ c) q) (rowsOf (ptok m ρ c) q) (wcols256 (ew m ρ c) 768 (by decide))

/-! ## The messages -/

/-- A partial sum as a message slot holds it, and back. -/
def pack384 (a : FVec F S256x384 .f32) : Vec F S1x256x384 .bf16 :=
  shapeCast S1x256x384 (truncf .bf16 a bitsLt_bf16_f32) shapeCasts_S256x384_S1x256x384
def unpack384 (b : Vec F S1x256x384 .bf16) : FVec F S256x384 .f32 :=
  extf .f32 (shapeCast S256x384 b shapeCasts_S1x256x384_S256x384) bitsLt_bf16_f32

/-- A partial sum as a message slot holds it, and back. -/
def pack256 (a : FVec F S256x256 .f32) : Vec F S1x256x256 .bf16 :=
  shapeCast S1x256x256 (truncf .bf16 a bitsLt_bf16_f32) shapeCasts_S256x256_S1x256x256
def unpack256 (b : Vec F S1x256x256 .bf16) : FVec F S256x256 .f32 :=
  extf .f32 (shapeCast S256x256 b shapeCasts_S1x256x256_S256x256) bitsLt_bf16_f32

/-- Section A: the first message, slot by slot; -/
def m1A (c : Dev nD) (s : Fin 4) : Vec F S1x256x384 .bf16 := pack384 (partA m ρ c (q1 0 c s))
/-- the second, which adds what the first partner sent for the same chunks; -/
def m2A (c : Dev nD) (v : Fin 2) : Vec F S1x256x384 .bf16 :=
  pack384 (addf (partA m ρ c (q2 0 c v)) (unpack384 (m1A m ρ (flip 0 c) (s12 0 c v))))
/-- the third, which adds what the first and second partner sent; -/
def m3A (c : Dev nD) (_ : Fin 1) : Vec F S1x256x384 .bf16 :=
  pack384 (addf (addf (partA m ρ c (q3 0 c (s23 0 c))) (unpack384 (m1A m ρ (flip 0 c) (s13 0 c)))) (unpack384 (m2A m ρ (flip 1 c) (s23 0 c))))
/-- and the section's sum for the device's own chunk. -/
def ownA (c : Dev nD) : FVec F S256x384 .f32 :=
  addf (addf (addf (partA m ρ c c) (unpack384 (m1A m ρ (flip 0 c) (s1o 0 c)))) (unpack384 (m2A m ρ (flip 1 c) (s2o 0 c))))
    (unpack384 (m3A m ρ (flip 2 c) 0))

/-- Section B: the first message, slot by slot; -/
def m1B (c : Dev nD) (s : Fin 4) : Vec F S1x256x384 .bf16 := pack384 (partB m ρ c (q1 1 c s))
/-- the second, which adds what the first partner sent for the same chunks; -/
def m2B (c : Dev nD) (v : Fin 2) : Vec F S1x256x384 .bf16 :=
  pack384 (addf (partB m ρ c (q2 1 c v)) (unpack384 (m1B m ρ (flip 1 c) (s12 1 c v))))
/-- the third, which adds what the first and second partner sent; -/
def m3B (c : Dev nD) (_ : Fin 1) : Vec F S1x256x384 .bf16 :=
  pack384 (addf (addf (partB m ρ c (q3 1 c (s23 1 c))) (unpack384 (m1B m ρ (flip 1 c) (s13 1 c)))) (unpack384 (m2B m ρ (flip 2 c) (s23 1 c))))
/-- and the section's sum for the device's own chunk. -/
def ownB (c : Dev nD) : FVec F S256x384 .f32 :=
  addf (addf (addf (partB m ρ c c) (unpack384 (m1B m ρ (flip 1 c) (s1o 1 c)))) (unpack384 (m2B m ρ (flip 2 c) (s2o 1 c))))
    (unpack384 (m3B m ρ (flip 0 c) 0))

/-- Section C: the first message, slot by slot; -/
def m1C (c : Dev nD) (s : Fin 4) : Vec F S1x256x256 .bf16 := pack256 (partC m ρ c (q1 2 c s))
/-- the second, which adds what the first partner sent for the same chunks; -/
def m2C (c : Dev nD) (v : Fin 2) : Vec F S1x256x256 .bf16 :=
  pack256 (addf (partC m ρ c (q2 2 c v)) (unpack256 (m1C m ρ (flip 2 c) (s12 2 c v))))
/-- the third, which adds what the first and second partner sent; -/
def m3C (c : Dev nD) (_ : Fin 1) : Vec F S1x256x256 .bf16 :=
  pack256 (addf (addf (partC m ρ c (q3 2 c (s23 2 c))) (unpack256 (m1C m ρ (flip 2 c) (s13 2 c)))) (unpack256 (m2C m ρ (flip 0 c) (s23 2 c))))
/-- and the section's sum for the device's own chunk. -/
def ownC (c : Dev nD) : FVec F S256x256 .f32 :=
  addf (addf (addf (partC m ρ c c) (unpack256 (m1C m ρ (flip 2 c) (s1o 2 c)))) (unpack256 (m2C m ρ (flip 0 c) (s2o 2 c))))
    (unpack256 (m3C m ρ (flip 1 c) 0))

/-- The product of the device's own rows with the shared matrix. -/
def shared (c : Dev nD) : FVec F S256x1024 .f32 := k0_pay199 (rowsOf (st0 m ρ c) c) (st4 m ρ c)

/-- The result's three column sections. -/
def resA (c : Dev nD) : FVec F S256x384 .f32 := addf (ownA m ρ c) (extractStridedSlice S256x384 ![0, 0] (shared m ρ c) slices_S256x1024_o0_0_S256x384)
def resB (c : Dev nD) : FVec F S256x384 .f32 := addf (ownB m ρ c) (extractStridedSlice S256x384 ![0, 384] (shared m ρ c) slices_S256x1024_o0_384_S256x384)
def resC (c : Dev nD) : FVec F S256x256 .f32 := addf (ownC m ρ c) (extractStridedSlice S256x256 ![0, 768] (shared m ρ c) slices_S256x1024_o0_768_S256x256)

/-- The kernel's result on device `c`. -/
def outAt (c : Dev nD) : (cc0_stg5_0 : Ref sig .tc).ty.Contents (Elt F) := fun i =>
  if h : (i 1).val < 384 then resA m ρ c (fun a => ⟨(![(i 0).val, (i 1).val] : Fin 2 → ℕ) a, by
      have h0 := (i 0).isLt; fin_cases a <;> [exact h0; exact h]⟩)
  else if h' : (i 1).val < 768 then resB m ρ c (fun a => ⟨(![(i 0).val, (i 1).val - 384] : Fin 2 → ℕ) a, by
      have h0 := (i 0).isLt; fin_cases a <;> [exact h0; exact (show (i 1).val - 384 < 384 by omega)]⟩)
  else resC m ρ c (fun a => ⟨(![(i 0).val, (i 1).val - 768] : Fin 2 → ℕ) a, by
      have h0 := (i 0).isLt; have h1 : (i 1).val < 1024 := (i 1).isLt
      fin_cases a <;> [exact h0; exact (show (i 1).val - 768 < 256 by omega)]⟩)

/-! ## Reading back -/

section Read
variable {sig' : RefSig} {κ : Kind} {sp : Space} {e : EltTy}

end Read

end Cert.CubeProof
end
-- ==== Proof.Sched.lean ====
/-
The protocol of the exchange: every device has one barrier cell, and a send and a receive cell for each of its nine
messages. A barrier signal from a partner hands over that partner's receive buffers for the direction they share; a
receive cell's credit hands over the receive buffer holding the partner's message; a send cell's credit gives the send
buffer back. One round per cell. The levels follow the program: barrier, then the messages by phase.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Values
public import Idealize.ShloMosaic.Lib.Pipeline.Launch
public import Idealize.ShloMosaic.Lib.Pipeline.Kit
public import Idealize.ShloMosaic.Lib.Tactic

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- A whole buffer of device `c` at contents `f`. -/
abbrev pt (c : Dev nD) (b : Ref sig .tc) (f : Buf (Elt F) ((Memref.whole b).view.loc (c : Thread nD τ))) : sProp 𝕄 :=
  (Memref.whole b).view.loc (c : Thread nD τ) ↦{fullShare} f

/-! ## The messages' buffers and cells

Message `k = 3 t + j` is section `t`'s message of phase `j`. -/

abbrev sbR : Fin 9 → Ref sig .tc := fun
  | 0 => cc0_scratch5
  | 1 => cc0_scratch8
  | 2 => cc0_scratch11
  | 3 => cc0_scratch6
  | 4 => cc0_scratch9
  | 5 => cc0_scratch12
  | 6 => cc0_scratch7
  | 7 => cc0_scratch10
  | 8 => cc0_scratch13
abbrev rvR : Fin 9 → Ref sig .tc := fun
  | 0 => cc0_scratch14
  | 1 => cc0_scratch17
  | 2 => cc0_scratch20
  | 3 => cc0_scratch15
  | 4 => cc0_scratch18
  | 5 => cc0_scratch21
  | 6 => cc0_scratch16
  | 7 => cc0_scratch19
  | 8 => cc0_scratch22
abbrev sS : Fin 9 → DmaSem sig := fun
  | 0 => ((cc0_scratch23.slice (Rect.unit (s := S9) ![0] S1.size inb_S9_S1_0)).squeeze S_ squeezes_S1_S_).sem
  | 1 => ((cc0_scratch23.slice (Rect.unit (s := S9) ![1] S1.size inb_S9_S1_1)).squeeze S_ squeezes_S1_S_).sem
  | 2 => ((cc0_scratch23.slice (Rect.unit (s := S9) ![2] S1.size inb_S9_S1_2)).squeeze S_ squeezes_S1_S_).sem
  | 3 => ((cc0_scratch23.slice (Rect.unit (s := S9) ![3] S1.size inb_S9_S1_3)).squeeze S_ squeezes_S1_S_).sem
  | 4 => ((cc0_scratch23.slice (Rect.unit (s := S9) ![4] S1.size inb_S9_S1_4)).squeeze S_ squeezes_S1_S_).sem
  | 5 => ((cc0_scratch23.slice (Rect.unit (s := S9) ![5] S1.size inb_S9_S1_5)).squeeze S_ squeezes_S1_S_).sem
  | 6 => ((cc0_scratch23.slice (Rect.unit (s := S9) ![6] S1.size inb_S9_S1_6)).squeeze S_ squeezes_S1_S_).sem
  | 7 => ((cc0_scratch23.slice (Rect.unit (s := S9) ![7] S1.size inb_S9_S1_7)).squeeze S_ squeezes_S1_S_).sem
  | 8 => ((cc0_scratch23.slice (Rect.unit (s := S9) ![8] S1.size inb_S9_S1_8)).squeeze S_ squeezes_S1_S_).sem
abbrev rS : Fin 9 → DmaSem sig := fun
  | 0 => ((cc0_scratch24.slice (Rect.unit (s := S9) ![0] S1.size inb_S9_S1_0)).squeeze S_ squeezes_S1_S_).sem
  | 1 => ((cc0_scratch24.slice (Rect.unit (s := S9) ![1] S1.size inb_S9_S1_1)).squeeze S_ squeezes_S1_S_).sem
  | 2 => ((cc0_scratch24.slice (Rect.unit (s := S9) ![2] S1.size inb_S9_S1_2)).squeeze S_ squeezes_S1_S_).sem
  | 3 => ((cc0_scratch24.slice (Rect.unit (s := S9) ![3] S1.size inb_S9_S1_3)).squeeze S_ squeezes_S1_S_).sem
  | 4 => ((cc0_scratch24.slice (Rect.unit (s := S9) ![4] S1.size inb_S9_S1_4)).squeeze S_ squeezes_S1_S_).sem
  | 5 => ((cc0_scratch24.slice (Rect.unit (s := S9) ![5] S1.size inb_S9_S1_5)).squeeze S_ squeezes_S1_S_).sem
  | 6 => ((cc0_scratch24.slice (Rect.unit (s := S9) ![6] S1.size inb_S9_S1_6)).squeeze S_ squeezes_S1_S_).sem
  | 7 => ((cc0_scratch24.slice (Rect.unit (s := S9) ![7] S1.size inb_S9_S1_7)).squeeze S_ squeezes_S1_S_).sem
  | 8 => ((cc0_scratch24.slice (Rect.unit (s := S9) ![8] S1.size inb_S9_S1_8)).squeeze S_ squeezes_S1_S_).sem

/-- The direction message `k` crosses, and its phase. -/
abbrev dm : Fin 9 → Fin 3 := fun | 0 => 0 | 1 => 1 | 2 => 2 | 3 => 1 | 4 => 2 | 5 => 0 | 6 => 2 | 7 => 0 | 8 => 1
abbrev ph : Fin 9 → ℕ := fun | 0 => 0 | 1 => 1 | 2 => 2 | 3 => 0 | 4 => 1 | 5 => 2 | 6 => 0 | 7 => 1 | 8 => 2

/-- The runtime's barrier semaphore. -/
abbrev barS : Sem sig := (SemArray.scalar (sig.barrier 0 rfl) : Sems sig S_).sem

/-- A device's nineteen cells: the barrier, and for each message the send (`false`) and the receive (`true`) cell. -/
abbrev Kd : Type := Option (Bool × Fin 9)

abbrev csem : Kd → SemLoc sig := fun
  | none => .reg barS
  | some (false, k) => .dma (sS k)
  | some (true, k) => .dma (rS k)

abbrev kcell (ck : Dev nD × Kd) : GSem nD τ sig := ((ck.1 : Thread nD τ), csem ck.2)
abbrev barCell (c : Dev nD) : GSem nD τ sig := ((c : Thread nD τ), .reg barS)
abbrev sendCell (c : Dev nD) (k : Fin 9) : GSem nD τ sig := ((c : Thread nD τ), .dma (sS k))
abbrev recvCell (c : Dev nD) (k : Fin 9) : GSem nD τ sig := ((c : Thread nD τ), .dma (rS k))

def allK : List Kd := none :: ((List.finRange 9).map fun k => some (false, k)) ++ ((List.finRange 9).map fun k => some (true, k))

/-- Which of a device's cells a semaphore is. -/
def kindOf (s : SemLoc sig) : Option Kd := allK.find? fun k => decide (csem k = s)

theorem kindOf_csem : ∀ k : Kd, kindOf (csem k) = some k := by decide

theorem csem_injective : Function.Injective csem := fun a b h => by
  have := congrArg kindOf h; rw [kindOf_csem, kindOf_csem] at this; exact Option.some.inj this

/-- A message's credit. -/
abbrev crd (k : Fin 9) : ℕ := (Memref.whole (rvR k)).view.dmaCredit
theorem crd_pos (k : Fin 9) : 0 < crd k := by
  fin_cases k <;> exact View.dmaCredit_pos _ (by decide)

/-! ## Payloads -/

/-- The contents of message `k` of device `c`: each slot at its value. -/
def Holds : (k : Fin 9) → Dev nD → (rvR k).ty.Contents (Elt F) → Prop
  | 0, c, f => ∀ s : Fin 4, slotOf (n := 4) (a := 256) (b := 384) f s = m1A m ρ c s
  | 1, c, f => ∀ s : Fin 2, slotOf (n := 2) (a := 256) (b := 384) f s = m2A m ρ c s
  | 2, c, f => ∀ s : Fin 1, slotOf (n := 1) (a := 256) (b := 384) f s = m3A m ρ c s
  | 3, c, f => ∀ s : Fin 4, slotOf (n := 4) (a := 256) (b := 384) f s = m1B m ρ c s
  | 4, c, f => ∀ s : Fin 2, slotOf (n := 2) (a := 256) (b := 384) f s = m2B m ρ c s
  | 5, c, f => ∀ s : Fin 1, slotOf (n := 1) (a := 256) (b := 384) f s = m3B m ρ c s
  | 6, c, f => ∀ s : Fin 4, slotOf (n := 4) (a := 256) (b := 256) f s = m1C m ρ c s
  | 7, c, f => ∀ s : Fin 2, slotOf (n := 2) (a := 256) (b := 256) f s = m2C m ρ c s
  | 8, c, f => ∀ s : Fin 1, slotOf (n := 1) (a := 256) (b := 256) f s = m3C m ρ c s

/-- A whole buffer of device `c` at some contents. -/
def anyPt (c : Dev nD) (b : Ref sig .tc) : sProp 𝕄 := iprop(∃ f, pt c b f)

instance anyPt_storable (c : Dev nD) (b : Ref sig .tc) : BI.Storable (upEmb : UEmb _ 𝕄) (anyPt (F := F) c b) := by
  unfold anyPt; infer_instance

/-- What `flip d c`'s signal hands device `c`: its receive buffers for direction `d`. -/
def barPay (c : Dev nD) : Fin 3 → sProp 𝕄
  | 0 => iprop(anyPt (flip 0 c) (rvR 0) ∗ anyPt (flip 0 c) (rvR 5) ∗ anyPt (flip 0 c) (rvR 7))
  | 1 => iprop(anyPt (flip 1 c) (rvR 1) ∗ anyPt (flip 1 c) (rvR 3) ∗ anyPt (flip 1 c) (rvR 8))
  | 2 => iprop(anyPt (flip 2 c) (rvR 2) ∗ anyPt (flip 2 c) (rvR 4) ∗ anyPt (flip 2 c) (rvR 6))
/-- The receive buffer with the partner's message; the send buffer. -/
def recvPay (c : Dev nD) (k : Fin 9) : sProp 𝕄 := iprop(∃ f, ⌜Holds m ρ k (flip (dm k) c) f⌝ ∗ pt c (rvR k) f)
def sendPay (c : Dev nD) (k : Fin 9) : sProp 𝕄 := anyPt c (sbR k)

def dut : Kd → Finset (Fin 3) | none => Finset.univ | some _ => {0}
def amt : Kd → ℕ | none => 1 | some (_, k) => crd k
def pay (c : Dev nD) : Kd → Fin 3 → sProp 𝕄
  | none, d => barPay c d
  | some (false, k), _ => sendPay c k
  | some (true, k), _ => recvPay m ρ c k

theorem barPay_storable (c : Dev nD) : (d : Fin 3) → BI.Storable (upEmb : UEmb _ 𝕄) (barPay (F := F) c d)
  | 0 => by
    show BI.Storable _ iprop(anyPt (flip 0 c) (rvR 0) ∗ anyPt (flip 0 c) (rvR 5) ∗ anyPt (flip 0 c) (rvR 7))
    infer_instance
  | 1 => by
    show BI.Storable _ iprop(anyPt (flip 1 c) (rvR 1) ∗ anyPt (flip 1 c) (rvR 3) ∗ anyPt (flip 1 c) (rvR 8))
    infer_instance
  | 2 => by
    show BI.Storable _ iprop(anyPt (flip 2 c) (rvR 2) ∗ anyPt (flip 2 c) (rvR 4) ∗ anyPt (flip 2 c) (rvR 6))
    infer_instance

instance pay_storable (c : Dev nD) (k : Kd) (d : Fin 3) : BI.Storable (upEmb : UEmb _ 𝕄) (pay (F := F) m ρ c k d) := by
  rcases k with _ | ⟨_ | _, k⟩
  · exact barPay_storable c d
  · show BI.Storable _ (sendPay c k)
    unfold sendPay; infer_instance
  · show BI.Storable _ (recvPay m ρ c k)
    unfold recvPay; infer_instance

/-- The schedule: one round per cell. -/
def rd : Rounds.Schedule (GSem nD τ sig) (Fin 3) 𝕄 where
  duties g r := if r = 0 ∧ g.1.2 = .tc then (match kindOf g.2 with | some k => dut k | none => ∅) else ∅
  unitless _ := False
  amount g _ _ := match kindOf g.2 with | some k => amt k | none => 1
  payload g _ d := match kindOf g.2 with | some k => pay m ρ g.1.1 k d | none => iprop(emp)
  amount_pos g _ _ _ := by
    show 0 < (match kindOf g.2 with | some k => amt k | none => 1)
    cases h : kindOf g.2 with
    | none => exact Nat.one_pos
    | some k =>
      rcases k with _ | ⟨b, k⟩
      · exact Nat.one_pos
      · exact crd_pos k

instance rd_payload_storable (g : GSem nD τ sig) (r : ℕ) (d : Fin 3) :
    BI.Storable (upEmb : UEmb _ 𝕄) ((rd (F := F) m ρ).payload g r d) := by
  show BI.Storable upEmb (match kindOf g.2 with | some k => pay m ρ g.1.1 k d | none => iprop(emp))
  cases kindOf g.2 with
  | none => show BI.Storable upEmb iprop(emp); infer_instance
  | some k => show BI.Storable upEmb (pay m ρ g.1.1 k d); infer_instance

section Tables
variable (c : Dev nD) (k : Kd)

theorem duties_cell : (rd (F := F) m ρ).duties (kcell (c, k)) 0 = dut k := by
  show (if (0:ℕ) = 0 ∧ (Proc.tc : Proc τ) = Proc.tc then (match kindOf (csem k) with | some k => dut k | none => ∅) else ∅) = _
  rw [kindOf_csem]; exact if_pos ⟨rfl, rfl⟩
theorem duties_later (g : GSem nD τ sig) : ∀ r, 1 ≤ r → (rd (F := F) m ρ).duties g r = ∅ :=
  fun r hr => if_neg fun h => by omega
theorem amount_cell (d : Fin 3) : (rd (F := F) m ρ).amount (kcell (c, k)) 0 d = amt k := by
  show (match kindOf (csem k) with | some k => amt k | none => 1) = _
  rw [kindOf_csem]
theorem payload_cell (d : Fin 3) : (rd (F := F) m ρ).payload (kcell (c, k)) 0 d = pay m ρ c k d := by
  show (match kindOf (csem k) with | some k => pay m ρ c k d | none => iprop(emp)) = _
  rw [kindOf_csem]

theorem expect_bar : (rd (F := F) m ρ).expect (barCell c) 0 = 3 := by
  unfold Schedule.expect Schedule.amountOf
  rw [duties_cell m ρ c none, Finset.sum_congr rfl fun d _ => amount_cell m ρ c none d]
  rfl
theorem expect_msg (b : Bool) (k : Fin 9) : (rd (F := F) m ρ).expect (kcell (c, some (b, k))) 0 = crd k := by
  unfold Schedule.expect Schedule.amountOf
  rw [duties_cell m ρ c (some (b, k)), Finset.sum_congr rfl fun d _ => amount_cell m ρ c (some (b, k)) d]
  exact Finset.sum_singleton _ _

/-- What a barrier cell's round hands over, all three signals in. -/
theorem rest_bar : bigSep ((rd (F := F) m ρ).duties (barCell c) 0 \ ∅) (fun d => (rd (F := F) m ρ).payload (barCell c) 0 d)
    = iprop(barPay c 0 ∗ barPay c 1 ∗ barPay c 2) := by
  rw [Finset.sdiff_empty, duties_cell m ρ c none]
  show bigSep Finset.univ _ = _
  rw [bigSep_univ_eq_bigSepL [0, 1, 2] (by decide) (by decide), bigSepL_cons_cons, bigSepL_cons_cons, bigSepL_singleton,
    payload_cell m ρ c none, payload_cell m ρ c none, payload_cell m ρ c none]
  rfl
theorem rest_msg (b : Bool) (k : Fin 9) : bigSep ((rd (F := F) m ρ).duties (kcell (c, some (b, k))) 0 \ ∅)
    (fun d => (rd (F := F) m ρ).payload (kcell (c, some (b, k))) 0 d) = pay m ρ c (some (b, k)) 0 := by
  rw [Finset.sdiff_empty, duties_cell m ρ c (some (b, k))]
  show bigSep {0} _ = _
  rw [bigSep_singleton, payload_cell]

end Tables

/-! ## What a device owes; the levels -/

/-- The receive credits of the messages in the list, still to be paid to the partners. -/
def owedL (c : Dev nD) : List (Fin 9) → CellTallies nD τ sig Unit
  | [] => 0
  | k :: l => owedL c l + tallyAt (recvCell (flip (dm k) c) k) () (crd k)

/-- The messages in the order in which they are sent. -/
abbrev order9 : List (Fin 9) := [0, 3, 6, 1, 4, 7, 2, 5, 8]

def O₁ (c : Dev nD) : CellTallies nD τ sig Unit := owedL c order9 + tallyAt (barCell (flip 2 c)) () 1
def O₂ (c : Dev nD) : CellTallies nD τ sig Unit := O₁ c + tallyAt (barCell (flip 1 c)) () 1
def O₀ (c : Dev nD) : CellTallies nD τ sig Unit := O₂ c + tallyAt (barCell (flip 0 c)) () 1

def L (g : GSem nD τ sig) : Finset Unit := if g.1.2 = .tc then {()} else ∅
def lvK : Kd → ℕ | none => 1 | some (false, _) => 0 | some (true, k) => 2 + ph k
def lv (g : GSem nD τ sig) (_ : Unit) : ℕ := match kindOf g.2 with | some k => lvK k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Kd) (u : Unit) : lv (kcell (c, k)) u = lvK k := by
  show (match kindOf (csem k) with | some k => lvK k | none => 0) = _
  rw [kindOf_csem]

theorem tally_pos {g g' : GSem nD τ sig} {u : Unit} {n : ℕ} (h : 0 < tallyAt g' () n g u) : g = g' := by
  rw [tallyAt_apply] at h
  by_contra hn
  rw [if_neg (fun h' => hn h'.1)] at h
  exact Nat.lt_irrefl 0 h

theorem owedL_pos {c : Dev nD} {g : GSem nD τ sig} {u : Unit} : ∀ {l : List (Fin 9)}, 0 < owedL c l g u → ∃ k ∈ l, g = recvCell (flip (dm k) c) k
  | [], h => absurd h (Nat.lt_irrefl 0)
  | k :: l, h => by
    have h' : 0 < owedL c l g u + tallyAt (recvCell (flip (dm k) c) k) () (crd k) g u := h
    rcases Nat.eq_zero_or_pos (owedL c l g u) with h0 | h0
    · rw [h0, Nat.zero_add] at h'
      exact ⟨k, List.mem_cons_self, tally_pos h'⟩
    · obtain ⟨k', hk, e⟩ := owedL_pos h0
      exact ⟨k', List.mem_cons_of_mem _ hk, e⟩

theorem O₀_pos {c : Dev nD} {g : GSem nD τ sig} {u : Unit} (h : 0 < O₀ c g u) :
    (∃ k, g = recvCell (flip (dm k) c) k) ∨ ∃ d, g = barCell (flip d c) := by
  have h' : 0 < ((owedL c order9 g u + tallyAt (barCell (flip 2 c)) () 1 g u) + tallyAt (barCell (flip 1 c)) () 1 g u)
      + tallyAt (barCell (flip 0 c)) () 1 g u := h
  by_cases h1 : 0 < owedL c order9 g u
  · obtain ⟨k, _, e⟩ := owedL_pos h1; exact Or.inl ⟨k, e⟩
  by_cases h2 : 0 < tallyAt (barCell (flip 2 c)) () 1 g u
  · exact Or.inr ⟨2, tally_pos h2⟩
  by_cases h3 : 0 < tallyAt (barCell (flip 1 c)) () 1 g u
  · exact Or.inr ⟨1, tally_pos h3⟩
  by_cases h4 : 0 < tallyAt (barCell (flip 0 c)) () 1 g u
  · exact Or.inr ⟨0, tally_pos h4⟩
  omega

/-- A device may wait on a cell while it owes messages of later levels only. -/
theorem mayWait_list (c : Dev nD) (k : Kd) (l : List (Fin 9)) (hl : ∀ k' ∈ l, lvK k < 2 + ph k') :
    (levAts L lv : sProp 𝕄) ⊢ MayWait (c : Thread nD τ) (csem k) () (owedL c l) :=
  MayOwe.of_cut (L := L) (lev := lv) (lvK k) (fun p hp => by rw [Finset.mem_singleton.mp hp, L_tc]; exact Finset.mem_singleton_self _)
    (fun g u hg => by obtain ⟨k', _, rfl⟩ := owedL_pos hg; rw [L_tc]; exact Finset.mem_singleton_self _)
    (fun p hp => by rw [Finset.mem_singleton.mp hp]; exact le_of_eq (lv_cell c k ()))
    (fun g u hg => by
      obtain ⟨k', hk', rfl⟩ := owedL_pos hg
      rw [show lv (recvCell (flip (dm k') c) k') u = 2 + ph k' from lv_cell _ (some (true, k')) u]
      exact hl k' hk')

/-- The staging cells' waits: at launch everything owed lies above, at the end nothing is owed. -/
theorem mayWait_stage (c : Dev nD) (q : DmaSem sig) (hq : kindOf (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> (rw [L_tc]; exact Finset.mem_singleton_self _))
      (fun p hp => by rw [Finset.mem_singleton.mp hp]; dsimp only [lv]; rw [hq])
      (fun g u hg => by
        rcases O₀_pos hg with ⟨k, rfl⟩ | ⟨d, rfl⟩
        · rw [show lv (recvCell (flip (dm k) c) k) u = 2 + ph k from lv_cell _ (some (true, k)) u]; omega
        · rw [show lv (barCell (flip d c)) u = 1 from lv_cell _ none u]; exact Nat.one_pos)
  · rw [MayWait_zero]; iintro -; iempintro

end Cert.CubeProof
end
-- ==== Proof.Steps.lean ====
/-
The body's communication steps as rules: a barrier signal, the barrier wait, sending a message, waiting for a partner's
message, and waiting for one's own send to complete. Each is the library's rule at this protocol's cells.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Sched
public import Idealize.ShloMosaic.Lib.Pipeline.Launch
public import Idealize.ShloMosaic.Lib.Pipeline.Kit
public import Idealize.ShloMosaic.Lib.Tactic

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ)

abbrev 𝒱₀ : Variants := Variants.none

/-- What the device owes, its past waits forgotten. -/
def ow (c : Dev nD) (O : CellTallies nD τ sig Unit) : sProp 𝕄 := iprop(∃ W, owes (c : Thread nD τ) O W)

/-- Device `c`'s means to signal its partner's barrier: the cell, the duty and that the round is reached. -/
def sigTok (c : Dev nD) (d : Fin 3) : sProp 𝕄 :=
  iprop(cellInv ER (rd m ρ) (K (flip d c, none)) (barCell (flip d c)) ∗ dutyTok ER (barCell (flip d c)) 0 d ∗ reached ER (barCell (flip d c)) 0)
/-- Its means to send message `k`. -/
def sendTok (c : Dev nD) (k : Fin 9) : sProp 𝕄 :=
  iprop(cellInv ER (rd m ρ) (K (c, some (false, k))) (sendCell c k)
    ∗ cellInv ER (rd m ρ) (K (flip (dm k) c, some (true, k))) (recvCell (flip (dm k) c) k)
    ∗ dutyTok ER (sendCell c k) 0 0 ∗ reached ER (sendCell c k) 0
    ∗ dutyTok ER (recvCell (flip (dm k) c) k) 0 0 ∗ reached ER (recvCell (flip (dm k) c) k) 0)
/-- Its means to wait on one of its own cells. -/
def waitTok (c : Dev nD) (k : Kd) : sProp 𝕄 :=
  iprop(cellInv ER (rd m ρ) (K (c, k)) (kcell (c, k)) ∗ atPos ER (kcell (c, k)) 0 ∅ 0)
/-- The credit a wait on one of its own message cells spends. -/
def crdTok (c : Dev nD) (b : Bool) (k : Fin 9) : sProp 𝕄 := cred (tallyAt (kcell (c, some (b, k))) () (crd k))

variable {α : Type} {Q : α → sProp (MT nD τ sig Unit (Elt F) ℕ UU ℕ)}

theorem wp_sig (c n : Dev nD) (d : Fin 3) (hn : n = flip d c) (O : CellTallies nD τ sig Unit)
    {k : PUnit → Prog (TpuEff nD τ sig (Elt F) Λ₀ .tc) α} :
    iprop(sigTok m ρ K c d ∗ barPay (flip d c) d ∗ ow c (O + tallyAt (barCell (flip d c)) () 1))
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold sigTok ow
  iintro ⟨⟨#HI, Ht, #Hr⟩, Hp, ⟨%W, HO⟩⟩ Hk
  iapply (Rounds.wp_signal 𝒱₀ ER (rd m ρ) (c : Thread nD τ) none (dst := (flip d c : Thread nD τ)) (κ := K (flip d c, none))
      (d := d) (by rw [show ((flip d c : Thread nD τ), SemLoc.reg barS) = kcell (flip d c, none) from rfl, duties_cell]; exact Finset.mem_univ _)
      ((amount_cell m ρ (flip d c) none d).trans rfl) () O rfl) $$ [HO Ht Hp]
  · isplitr; · iexact HI
    isplitl [HO]; · iexact HO
    isplitl [Ht]; · iexact Ht
    isplitl [Hp]; · iapply (Entails.of_eq (show barPay (flip d c) d = _ from (payload_cell m ρ (flip d c) none d).symm)); iexact Hp
    iexact Hr
  iintro HO
  iapply Hk
  iexists W; iexact HO

theorem wp_bar (c : Dev nD) (l : List (Fin 9)) {k : PUnit → Prog (TpuEff nD τ sig (Elt F) Λ₀ .tc) α} :
    iprop(waitTok m ρ K c none ∗ cred (tallyAt (barCell c) () 3) ∗ ow c (owedL c l) ∗ levAts L lv)
      ⊢ iprop(((ow c (owedL c l) ∗ semVal (barCell c) 0 ∗ barPay c 0 ∗ barPay c 1 ∗ barPay c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  unfold waitTok ow
  iintro ⟨⟨#HI, Hat⟩, Hc, ⟨%W, HO⟩, #Hlev⟩ Hk
  iapply (Rounds.wp_wait_rest_token 𝒱₀ ER (rd m ρ) (c : Thread nD τ) none (κ := K (c, none))
      (wpE_semWait_eq 𝒱₀ (c : Thread nD τ) none Set.univ) (Set.mem_univ _) () (O := owedL c l) (W := W) (R := 0) (m := 0) (T := ∅)
      ((Nat.zero_add 3).trans (expect_bar m ρ c).symm)) $$ [Hc HO Hat]
  · isplitr; · iexact HI
    isplitl [Hc]; · iexact Hc
    isplitl [HO]; · iexact HO
    isplitr; · iapply (mayWait_list c none l (fun k' _ => by show 1 < _; omega)); iexact Hlev
    iexact Hat
  iintro ⟨HO, Hat, -, Hpay⟩
  ihave Hp := (Entails.of_eq (rest_bar m ρ c)) $$ Hpay
  imod (Rounds.cell_close ER (rd m ρ) (Set.mem_univ (K (c, none))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- Waiting for the partner's message `k`, or for the own send of message `k`, while owing later messages only. -/
theorem wp_msg (c : Dev nD) (b : Bool) (k : Fin 9) (l : List (Fin 9)) (hl : ∀ k' ∈ l, lvK (some (b, k)) < 2 + ph k')
    {s s' : Shape} {dt dt' : EltTy} (q : DmaSem sig) (hq : csem (some (b, k)) = .dma q) {src : Memref sig .tc .vmem s dt} {dst : Memref sig .tc .vmem s' dt'}
    {hsrc : src.view.WordExact} {hdst : dst.view.WordExact} (hcr : dst.view.dmaCredit = crd k)
    {kt : PUnit → Prog (TpuEff nD τ sig (Elt F) Λ₀ .tc) α} :
    iprop(waitTok m ρ K c (some (b, k)) ∗ crdTok c b k ∗ ow c (owedL c l) ∗ levAts L lv)
      ⊢ iprop(((ow c (owedL c l) ∗ semVal (kcell (c, some (b, k))) 0 ∗ pay m ρ c (some (b, k)) 0)
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 q src dst hsrc hdst) kt) Q) := by
  have e : kcell (c, some (b, k)) = ((c : Thread nD τ), SemLoc.dma q) := by unfold kcell; rw [hq]
  have hr := rest_msg m ρ c b k
  have hx := expect_msg m ρ c b k
  have hw := mayWait_list (F := F) c (some (b, k)) l hl
  rw [hq] at hw
  unfold waitTok crdTok ow
  rw [e] at hr hx ⊢
  iintro ⟨⟨#HI, Hat⟩, Hc, ⟨%W, HO⟩, #Hlev⟩ Hk
  rw [← hcr]
  iapply (Rounds.wp_wait_rest_token 𝒱₀ ER (rd m ρ) (c : Thread nD τ) none (κ := K (c, some (b, k)))
      (wpE_waitDma2_eq 𝒱₀ (c : Thread nD τ) none Set.univ) (Set.mem_univ _) () (O := owedL c l) (W := W) (R := 0) (m := 0) (T := ∅)
      ((Nat.zero_add _).trans (hcr.trans hx.symm))) $$ [Hc HO Hat]
  · isplitr; · iexact HI
    isplitl [Hc]; · iexact Hc
    isplitl [HO]; · iexact HO
    isplitr; · iapply hw; iexact Hlev
    iexact Hat
  iintro ⟨HO, Hat, -, Hpay⟩
  ihave Hp := (Entails.of_eq hr) $$ Hpay
  imod (Rounds.cell_close ER (rd m ρ) (Set.mem_univ (K (c, some (b, k)))) (fun h => h) (R := 0 + 1) (duties_later m ρ ((c : Thread nD τ), SemLoc.dma q))) $$ [Hat] with Hz
  · isplitr; · iexact HI
    iexact Hat
  iapply Hk
  isplitl [HO]; · iexists _; iexact HO
  isplitl [Hz]; · iexact Hz
  iexact Hp

/-- Sending message `k`, which is next among those owed. -/
theorem wp_send (c n : Dev nD) (k : Fin 9) (hn : n = flip (dm k) c) (l : List (Fin 9))
    {s : Shape} {dt : EltTy} {src : Memref sig .tc .vmem s dt} {dst : Memref sig (Dev.tc n : Thread nD τ).2.kind .vmem s dt}
    (qs qr : DmaSem sig) (hqs : sS k = qs) (hqr : rS k = qr)
    {hsc : dst.view.ref.isScScratch = false} {hsrc : src.view.WordExact} {hdst : dst.view.WordExact}
    {hsem : DmaTarget.Typed .vmem (.dma qr) (.remote (Dev.tc n : Thread nD τ) dst (.dma qs) hsc)}
    (hcr : dst.view.dmaCredit = crd k) {kt : PUnit → Prog (TpuEff nD τ sig (Elt F) Λ₀ .tc) α}
    (fs : Buf (Elt F) (src.view.loc (c : Thread nD τ))) (fd : Buf (Elt F) (dst.view.loc (Dev.tc n : Thread nD τ)))
    (hp₁ : (src.view.loc (c : Thread nD τ) ↦[src.view.set]{fullShare} fs : sProp 𝕄) ⊢ sendPay c k)
    (hp₂ : (dst.view.loc (Dev.tc n : Thread nD τ) ↦[dst.view.set]{fullShare} (dst.view.write (Elt F) fd (src.view.read (Elt F) fs) Finset.univ) : sProp 𝕄)
      ⊢ recvPay m ρ n k) :
    iprop(sendTok m ρ K c k ∗ (src.view.loc (c : Thread nD τ) ↦[src.view.set]{fullShare} fs)
        ∗ (dst.view.loc (Dev.tc n : Thread nD τ) ↦[dst.view.set]{fullShare} fd) ∗ ow c (owedL c (k :: l)))
      ⊢ iprop(((crdTok c false k ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst (.dma qs) hsc) (.dma qr) hsrc hdst hsem) kt) Q) := by
  subst hn; subst hqs; subst hqr
  unfold sendTok ow crdTok
  iintro ⟨⟨#HIs, #HIr, Hts, #Hrs, Htr, #Hrr⟩, Hs, Hd, ⟨%W, HO⟩⟩ Hk
  iapply (Rounds.wp_send_pointsTo 𝒱₀ ER (rd m ρ) (c : Thread nD τ) none (κ₁ := K (c, some (false, k))) (κ₂ := K (flip (dm k) c, some (true, k)))
    (r₁ := 0) (r₂ := 0) (d₁ := 0) (d₂ := 0) (fs := fs) (fd := fd) (sS := .dma (sS k)) (sem := .dma (rS k))
    (by rw [show ((c : Thread nD τ), SemLoc.dma (sS k)) = kcell (c, some (false, k)) from rfl, duties_cell]; exact Finset.mem_singleton_self _)
    (by rw [show ((Dev.tc (flip (dm k) c) : Thread nD τ), SemLoc.dma (rS k)) = kcell (flip (dm k) c, some (true, k)) from rfl, duties_cell]; exact Finset.mem_singleton_self _)
    () () (crd k) hcr (amount_cell m ρ c (some (false, k)) 0) (amount_cell m ρ (flip (dm k) c) (some (true, k)) 0) (owedL c l) rfl (W := W)
    (hp₁.trans (Entails.of_eq (payload_cell m ρ c (some (false, k)) 0).symm))
    (hp₂.trans (Entails.of_eq (payload_cell m ρ (flip (dm k) c) (some (true, k)) 0).symm))) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact Hrs
    isplitl [Htr]; · iexact Htr
    iexact Hrr
  iintro ⟨Hc, HO⟩
  iapply Hk
  isplitl [Hc]; · iexact Hc
  iexists W; iexact HO

/-- A send buffer whose slots hold message `k`. -/
def full (c : Dev nD) : Fin 9 → sProp 𝕄
  | 0 => iprop(∃ f, pt c cc0_scratch5 f ∗ ⌜∀ s : Fin 4, slotOf (n := 4) (a := 256) (b := 384) ((Memref.whole cc0_scratch5 : Memref sig .tc .vmem S4x256x384 .bf16).view.read (Elt F) f) s = m1A m ρ c s⌝)
  | 1 => iprop(∃ f, pt c cc0_scratch8 f ∗ ⌜∀ s : Fin 2, slotOf (n := 2) (a := 256) (b := 384) ((Memref.whole cc0_scratch8 : Memref sig .tc .vmem S2x256x384 .bf16).view.read (Elt F) f) s = m2A m ρ c s⌝)
  | 2 => iprop(∃ f, pt c cc0_scratch11 f ∗ ⌜∀ s : Fin 1, slotOf (n := 1) (a := 256) (b := 384) ((Memref.whole cc0_scratch11 : Memref sig .tc .vmem S1x256x384 .bf16).view.read (Elt F) f) s = m3A m ρ c s⌝)
  | 3 => iprop(∃ f, pt c cc0_scratch6 f ∗ ⌜∀ s : Fin 4, slotOf (n := 4) (a := 256) (b := 384) ((Memref.whole cc0_scratch6 : Memref sig .tc .vmem S4x256x384 .bf16).view.read (Elt F) f) s = m1B m ρ c s⌝)
  | 4 => iprop(∃ f, pt c cc0_scratch9 f ∗ ⌜∀ s : Fin 2, slotOf (n := 2) (a := 256) (b := 384) ((Memref.whole cc0_scratch9 : Memref sig .tc .vmem S2x256x384 .bf16).view.read (Elt F) f) s = m2B m ρ c s⌝)
  | 5 => iprop(∃ f, pt c cc0_scratch12 f ∗ ⌜∀ s : Fin 1, slotOf (n := 1) (a := 256) (b := 384) ((Memref.whole cc0_scratch12 : Memref sig .tc .vmem S1x256x384 .bf16).view.read (Elt F) f) s = m3B m ρ c s⌝)
  | 6 => iprop(∃ f, pt c cc0_scratch7 f ∗ ⌜∀ s : Fin 4, slotOf (n := 4) (a := 256) (b := 256) ((Memref.whole cc0_scratch7 : Memref sig .tc .vmem S4x256x256 .bf16).view.read (Elt F) f) s = m1C m ρ c s⌝)
  | 7 => iprop(∃ f, pt c cc0_scratch10 f ∗ ⌜∀ s : Fin 2, slotOf (n := 2) (a := 256) (b := 256) ((Memref.whole cc0_scratch10 : Memref sig .tc .vmem S2x256x256 .bf16).view.read (Elt F) f) s = m2C m ρ c s⌝)
  | 8 => iprop(∃ f, pt c cc0_scratch13 f ∗ ⌜∀ s : Fin 1, slotOf (n := 1) (a := 256) (b := 256) ((Memref.whole cc0_scratch13 : Memref sig .tc .vmem S1x256x256 .bf16).view.read (Elt F) f) s = m3C m ρ c s⌝)

theorem wp_send0 (c n : Dev nD) (hn : n = flip 0 c) (l : List (Fin 9))
    {hsc : (Memref.whole cc0_scratch14 : Memref sig (Dev.tc n : Thread nD τ).2.kind _ _ _).view.ref.isScScratch = false}
    {hsrc : (Memref.whole cc0_scratch5 : Memref sig .tc _ _ _).view.WordExact} {hdst : (Memref.whole cc0_scratch14 : Memref sig .tc _ _ _).view.WordExact}
    {hsem : DmaTarget.Typed .vmem (.dma (rS 0)) (.remote (Dev.tc n : Thread nD τ) (Memref.whole cc0_scratch14) (.dma (sS 0)) hsc)}
    {kt : PUnit → Prog (TpuEff nD τ sig (Elt F) Λ₀ .tc) α} :
    iprop(sendTok m ρ K c 0 ∗ full m ρ c 0 ∗ anyPt (flip 0 c) cc0_scratch14 ∗ ow c (owedL c (0 :: l)))
      ⊢ iprop(((crdTok c false 0 ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (Memref.whole cc0_scratch5) (.remote (Dev.tc n : Thread nD τ) (Memref.whole cc0_scratch14) (.dma (sS 0)) hsc) (.dma (rS 0)) hsrc hdst hsem) kt) Q) := by
  unfold full anyPt
  iintro ⟨Ht, ⟨%fs, Hs, %hh⟩, ⟨%fd, Hd⟩, HO⟩
  subst hn
  iapply (wp_send m ρ K c (flip 0 c) 0 rfl l (sS 0) (rS 0) rfl rfl rfl fs fd
    (by rw [View.set_whole]; unfold sendPay anyPt; iintro H; iexists fs; iexact H)
    (by rw [View.set_whole, View.write_whole_univ, View.read_whole]; unfold recvPay; iintro H; iexists fs
        isplitr; · ipureintro; rw [flip_flip]; exact hh
        iexact H))
  rw [View.set_whole, View.set_whole]
  isplitl [Ht]; · iexact Ht
  isplitl [Hs]; · iexact Hs
  isplitl [Hd]; · iexact Hd
  iexact HO

theorem wp_send1 (c n : Dev nD) (hn : n = flip 1 c) (l : List (Fin 9))
    {hsc : (Memref.whole cc0_scratch17 : Memref sig (Dev.tc n : Thread nD τ).2.kind _ _ _).view.ref.isScScratch = false}
    {hsrc : (Memref.whole cc0_scratch8 : Memref sig .tc _ _ _).view.WordExact} {hdst : (Memref.whole cc0_scratch17 : Memref sig .tc _ _ _).view.WordExact}
    {hsem : DmaTarget.Typed .vmem (.dma (rS 1)) (.remote (Dev.tc n : Thread nD τ) (Memref.whole cc0_scratch17) (.dma (sS 1)) hsc)}
    {kt : PUnit → Prog (TpuEff nD τ sig (Elt F) Λ₀ .tc) α} :
    iprop(sendTok m ρ K c 1 ∗ full m ρ c 1 ∗ anyPt (flip 1 c) cc0_scratch17 ∗ ow c (owedL c (1 :: l)))
      ⊢ iprop(((crdTok c false 1 ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (Memref.whole cc0_scratch8) (.remote (Dev.tc n : Thread nD τ) (Memref.whole cc0_scratch17) (.dma (sS 1)) hsc) (.dma (rS 1)) hsrc hdst hsem) kt) Q) := by
  unfold full anyPt
  iintro ⟨Ht, ⟨%fs, Hs, %hh⟩, ⟨%fd, Hd⟩, HO⟩
  subst hn
  iapply (wp_send m ρ K c (flip 1 c) 1 rfl l (sS 1) (rS 1) rfl rfl rfl fs fd
    (by rw [View.set_whole]; unfold sendPay anyPt; iintro H; iexists fs; iexact H)
    (by rw [View.set_whole, View.write_whole_univ, View.read_whole]; unfold recvPay; iintro H; iexists fs
        isplitr; · ipureintro; rw [flip_flip]; exact hh
        iexact H))
  rw [View.set_whole, View.set_whole]
  isplitl [Ht]; · iexact Ht
  isplitl [Hs]; · iexact Hs
  isplitl [Hd]; · iexact Hd
  iexact HO

theorem wp_send2 (c n : Dev nD) (hn : n = flip 2 c) (l : List (Fin 9))
    {hsc : (Memref.whole cc0_scratch20 : Memref sig (Dev.tc n : Thread nD τ).2.kind _ _ _).view.ref.isScScratch = false}
    {hsrc : (Memref.whole cc0_scratch11 : Memref sig .tc _ _ _).view.WordExact} {hdst : (Memref.whole cc0_scratch20 : Memref sig .tc _ _ _).view.WordExact}
    {hsem : DmaTarget.Typed .vmem (.dma (rS 2)) (.remote (Dev.tc n : Thread nD τ) (Memref.whole cc0_scratch20) (.dma (sS 2)) hsc)}
    {kt : PUnit → Prog (TpuEff nD τ sig (Elt F) Λ₀ .tc) α} :
    iprop(sendTok m ρ K c 2 ∗ full m ρ c 2 ∗ anyPt (flip 2 c) cc0_scratch20 ∗ ow c (owedL c (2 :: l)))
      ⊢ iprop(((crdTok c false 2 ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (Memref.whole cc0_scratch11) (.remote (Dev.tc n : Thread nD τ) (Memref.whole cc0_scratch20) (.dma (sS 2)) hsc) (.dma (rS 2)) hsrc hdst hsem) kt) Q) := by
  unfold full anyPt
  iintro ⟨Ht, ⟨%fs, Hs, %hh⟩, ⟨%fd, Hd⟩, HO⟩
  subst hn
  iapply (wp_send m ρ K c (flip 2 c) 2 rfl l (sS 2) (rS 2) rfl rfl rfl fs fd
    (by rw [View.set_whole]; unfold sendPay anyPt; iintro H; iexists fs; iexact H)
    (by rw [View.set_whole, View.write_whole_univ, View.read_whole]; unfold recvPay; iintro H; iexists fs
        isplitr; · ipureintro; rw [flip_flip]; exact hh
        iexact H))
  rw [View.set_whole, View.set_whole]
  isplitl [Ht]; · iexact Ht
  isplitl [Hs]; · iexact Hs
  isplitl [Hd]; · iexact Hd
  iexact HO

theorem wp_send3 (c n : Dev nD) (hn : n = flip 1 c) (l : List (Fin 9))
    {hsc : (Memref.whole cc0_scratch15 : Memref sig (Dev.tc n : Thread nD τ).2.kind _ _ _).view.ref.isScScratch = false}
    {hsrc : (Memref.whole cc0_scratch6 : Memref sig .tc _ _ _).view.WordExact} {hdst : (Memref.whole cc0_scratch15 : Memref sig .tc _ _ _).view.WordExact}
    {hsem : DmaTarget.Typed .vmem (.dma (rS 3)) (.remote (Dev.tc n : Thread nD τ) (Memref.whole cc0_scratch15) (.dma (sS 3)) hsc)}
    {kt : PUnit → Prog (TpuEff nD τ sig (Elt F) Λ₀ .tc) α} :
    iprop(sendTok m ρ K c 3 ∗ full m ρ c 3 ∗ anyPt (flip 1 c) cc0_scratch15 ∗ ow c (owedL c (3 :: l)))
      ⊢ iprop(((crdTok c false 3 ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (Memref.whole cc0_scratch6) (.remote (Dev.tc n : Thread nD τ) (Memref.whole cc0_scratch15) (.dma (sS 3)) hsc) (.dma (rS 3)) hsrc hdst hsem) kt) Q) := by
  unfold full anyPt
  iintro ⟨Ht, ⟨%fs, Hs, %hh⟩, ⟨%fd, Hd⟩, HO⟩
  subst hn
  iapply (wp_send m ρ K c (flip 1 c) 3 rfl l (sS 3) (rS 3) rfl rfl rfl fs fd
    (by rw [View.set_whole]; unfold sendPay anyPt; iintro H; iexists fs; iexact H)
    (by rw [View.set_whole, View.write_whole_univ, View.read_whole]; unfold recvPay; iintro H; iexists fs
        isplitr; · ipureintro; rw [flip_flip]; exact hh
        iexact H))
  rw [View.set_whole, View.set_whole]
  isplitl [Ht]; · iexact Ht
  isplitl [Hs]; · iexact Hs
  isplitl [Hd]; · iexact Hd
  iexact HO

theorem wp_send4 (c n : Dev nD) (hn : n = flip 2 c) (l : List (Fin 9))
    {hsc : (Memref.whole cc0_scratch18 : Memref sig (Dev.tc n : Thread nD τ).2.kind _ _ _).view.ref.isScScratch = false}
    {hsrc : (Memref.whole cc0_scratch9 : Memref sig .tc _ _ _).view.WordExact} {hdst : (Memref.whole cc0_scratch18 : Memref sig .tc _ _ _).view.WordExact}
    {hsem : DmaTarget.Typed .vmem (.dma (rS 4)) (.remote (Dev.tc n : Thread nD τ) (Memref.whole cc0_scratch18) (.dma (sS 4)) hsc)}
    {kt : PUnit → Prog (TpuEff nD τ sig (Elt F) Λ₀ .tc) α} :
    iprop(sendTok m ρ K c 4 ∗ full m ρ c 4 ∗ anyPt (flip 2 c) cc0_scratch18 ∗ ow c (owedL c (4 :: l)))
      ⊢ iprop(((crdTok c false 4 ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (Memref.whole cc0_scratch9) (.remote (Dev.tc n : Thread nD τ) (Memref.whole cc0_scratch18) (.dma (sS 4)) hsc) (.dma (rS 4)) hsrc hdst hsem) kt) Q) := by
  unfold full anyPt
  iintro ⟨Ht, ⟨%fs, Hs, %hh⟩, ⟨%fd, Hd⟩, HO⟩
  subst hn
  iapply (wp_send m ρ K c (flip 2 c) 4 rfl l (sS 4) (rS 4) rfl rfl rfl fs fd
    (by rw [View.set_whole]; unfold sendPay anyPt; iintro H; iexists fs; iexact H)
    (by rw [View.set_whole, View.write_whole_univ, View.read_whole]; unfold recvPay; iintro H; iexists fs
        isplitr; · ipureintro; rw [flip_flip]; exact hh
        iexact H))
  rw [View.set_whole, View.set_whole]
  isplitl [Ht]; · iexact Ht
  isplitl [Hs]; · iexact Hs
  isplitl [Hd]; · iexact Hd
  iexact HO

theorem wp_send5 (c n : Dev nD) (hn : n = flip 0 c) (l : List (Fin 9))
    {hsc : (Memref.whole cc0_scratch21 : Memref sig (Dev.tc n : Thread nD τ).2.kind _ _ _).view.ref.isScScratch = false}
    {hsrc : (Memref.whole cc0_scratch12 : Memref sig .tc _ _ _).view.WordExact} {hdst : (Memref.whole cc0_scratch21 : Memref sig .tc _ _ _).view.WordExact}
    {hsem : DmaTarget.Typed .vmem (.dma (rS 5)) (.remote (Dev.tc n : Thread nD τ) (Memref.whole cc0_scratch21) (.dma (sS 5)) hsc)}
    {kt : PUnit → Prog (TpuEff nD τ sig (Elt F) Λ₀ .tc) α} :
    iprop(sendTok m ρ K c 5 ∗ full m ρ c 5 ∗ anyPt (flip 0 c) cc0_scratch21 ∗ ow c (owedL c (5 :: l)))
      ⊢ iprop(((crdTok c false 5 ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (Memref.whole cc0_scratch12) (.remote (Dev.tc n : Thread nD τ) (Memref.whole cc0_scratch21) (.dma (sS 5)) hsc) (.dma (rS 5)) hsrc hdst hsem) kt) Q) := by
  unfold full anyPt
  iintro ⟨Ht, ⟨%fs, Hs, %hh⟩, ⟨%fd, Hd⟩, HO⟩
  subst hn
  iapply (wp_send m ρ K c (flip 0 c) 5 rfl l (sS 5) (rS 5) rfl rfl rfl fs fd
    (by rw [View.set_whole]; unfold sendPay anyPt; iintro H; iexists fs; iexact H)
    (by rw [View.set_whole, View.write_whole_univ, View.read_whole]; unfold recvPay; iintro H; iexists fs
        isplitr; · ipureintro; rw [flip_flip]; exact hh
        iexact H))
  rw [View.set_whole, View.set_whole]
  isplitl [Ht]; · iexact Ht
  isplitl [Hs]; · iexact Hs
  isplitl [Hd]; · iexact Hd
  iexact HO

theorem wp_send6 (c n : Dev nD) (hn : n = flip 2 c) (l : List (Fin 9))
    {hsc : (Memref.whole cc0_scratch16 : Memref sig (Dev.tc n : Thread nD τ).2.kind _ _ _).view.ref.isScScratch = false}
    {hsrc : (Memref.whole cc0_scratch7 : Memref sig .tc _ _ _).view.WordExact} {hdst : (Memref.whole cc0_scratch16 : Memref sig .tc _ _ _).view.WordExact}
    {hsem : DmaTarget.Typed .vmem (.dma (rS 6)) (.remote (Dev.tc n : Thread nD τ) (Memref.whole cc0_scratch16) (.dma (sS 6)) hsc)}
    {kt : PUnit → Prog (TpuEff nD τ sig (Elt F) Λ₀ .tc) α} :
    iprop(sendTok m ρ K c 6 ∗ full m ρ c 6 ∗ anyPt (flip 2 c) cc0_scratch16 ∗ ow c (owedL c (6 :: l)))
      ⊢ iprop(((crdTok c false 6 ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (Memref.whole cc0_scratch7) (.remote (Dev.tc n : Thread nD τ) (Memref.whole cc0_scratch16) (.dma (sS 6)) hsc) (.dma (rS 6)) hsrc hdst hsem) kt) Q) := by
  unfold full anyPt
  iintro ⟨Ht, ⟨%fs, Hs, %hh⟩, ⟨%fd, Hd⟩, HO⟩
  subst hn
  iapply (wp_send m ρ K c (flip 2 c) 6 rfl l (sS 6) (rS 6) rfl rfl rfl fs fd
    (by rw [View.set_whole]; unfold sendPay anyPt; iintro H; iexists fs; iexact H)
    (by rw [View.set_whole, View.write_whole_univ, View.read_whole]; unfold recvPay; iintro H; iexists fs
        isplitr; · ipureintro; rw [flip_flip]; exact hh
        iexact H))
  rw [View.set_whole, View.set_whole]
  isplitl [Ht]; · iexact Ht
  isplitl [Hs]; · iexact Hs
  isplitl [Hd]; · iexact Hd
  iexact HO

theorem wp_send7 (c n : Dev nD) (hn : n = flip 0 c) (l : List (Fin 9))
    {hsc : (Memref.whole cc0_scratch19 : Memref sig (Dev.tc n : Thread nD τ).2.kind _ _ _).view.ref.isScScratch = false}
    {hsrc : (Memref.whole cc0_scratch10 : Memref sig .tc _ _ _).view.WordExact} {hdst : (Memref.whole cc0_scratch19 : Memref sig .tc _ _ _).view.WordExact}
    {hsem : DmaTarget.Typed .vmem (.dma (rS 7)) (.remote (Dev.tc n : Thread nD τ) (Memref.whole cc0_scratch19) (.dma (sS 7)) hsc)}
    {kt : PUnit → Prog (TpuEff nD τ sig (Elt F) Λ₀ .tc) α} :
    iprop(sendTok m ρ K c 7 ∗ full m ρ c 7 ∗ anyPt (flip 0 c) cc0_scratch19 ∗ ow c (owedL c (7 :: l)))
      ⊢ iprop(((crdTok c false 7 ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (Memref.whole cc0_scratch10) (.remote (Dev.tc n : Thread nD τ) (Memref.whole cc0_scratch19) (.dma (sS 7)) hsc) (.dma (rS 7)) hsrc hdst hsem) kt) Q) := by
  unfold full anyPt
  iintro ⟨Ht, ⟨%fs, Hs, %hh⟩, ⟨%fd, Hd⟩, HO⟩
  subst hn
  iapply (wp_send m ρ K c (flip 0 c) 7 rfl l (sS 7) (rS 7) rfl rfl rfl fs fd
    (by rw [View.set_whole]; unfold sendPay anyPt; iintro H; iexists fs; iexact H)
    (by rw [View.set_whole, View.write_whole_univ, View.read_whole]; unfold recvPay; iintro H; iexists fs
        isplitr; · ipureintro; rw [flip_flip]; exact hh
        iexact H))
  rw [View.set_whole, View.set_whole]
  isplitl [Ht]; · iexact Ht
  isplitl [Hs]; · iexact Hs
  isplitl [Hd]; · iexact Hd
  iexact HO

theorem wp_send8 (c n : Dev nD) (hn : n = flip 1 c) (l : List (Fin 9))
    {hsc : (Memref.whole cc0_scratch22 : Memref sig (Dev.tc n : Thread nD τ).2.kind _ _ _).view.ref.isScScratch = false}
    {hsrc : (Memref.whole cc0_scratch13 : Memref sig .tc _ _ _).view.WordExact} {hdst : (Memref.whole cc0_scratch22 : Memref sig .tc _ _ _).view.WordExact}
    {hsem : DmaTarget.Typed .vmem (.dma (rS 8)) (.remote (Dev.tc n : Thread nD τ) (Memref.whole cc0_scratch22) (.dma (sS 8)) hsc)}
    {kt : PUnit → Prog (TpuEff nD τ sig (Elt F) Λ₀ .tc) α} :
    iprop(sendTok m ρ K c 8 ∗ full m ρ c 8 ∗ anyPt (flip 1 c) cc0_scratch22 ∗ ow c (owedL c (8 :: l)))
      ⊢ iprop(((crdTok c false 8 ∗ ow c (owedL c l)) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (Memref.whole cc0_scratch13) (.remote (Dev.tc n : Thread nD τ) (Memref.whole cc0_scratch22) (.dma (sS 8)) hsc) (.dma (rS 8)) hsrc hdst hsem) kt) Q) := by
  unfold full anyPt
  iintro ⟨Ht, ⟨%fs, Hs, %hh⟩, ⟨%fd, Hd⟩, HO⟩
  subst hn
  iapply (wp_send m ρ K c (flip 1 c) 8 rfl l (sS 8) (rS 8) rfl rfl rfl fs fd
    (by rw [View.set_whole]; unfold sendPay anyPt; iintro H; iexists fs; iexact H)
    (by rw [View.set_whole, View.write_whole_univ, View.read_whole]; unfold recvPay; iintro H; iexists fs
        isplitr; · ipureintro; rw [flip_flip]; exact hh
        iexact H))
  rw [View.set_whole, View.set_whole]
  isplitl [Ht]; · iexact Ht
  isplitl [Hs]; · iexact Hs
  isplitl [Hd]; · iexact Hd
  iexact HO

end Cert.CubeProof
end
-- ==== Proof.Reads.lean ====
/-
Reading back what was stored: a slot of a message buffer and a chunk of rows of an accumulator after a list of stores,
and the closed forms of the program's offsets.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Steps
public import Idealize.ShloMosaic.Lib.Pipeline.Launch
public import Idealize.ShloMosaic.Lib.Tactic
public import Idealize.ShloMosaic.Lib.Pipeline.Kit
public import Idealize.ShloMosaic.Lib.Tactic

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Closed forms -/

instance (c : Dev nD) : ClosedOff (k0_off1 c 0#32 0#32 0#32) := ⟨![256 * (q1 0 c 0).val, 0], off1_0 c⟩
instance (c : Dev nD) : ClosedOff (k0_off2 c 0#32 0#32 0#32) := ⟨![256 * (q1 0 c 0).val, 0], off2_0 c⟩
instance (c : Dev nD) : ClosedOff (k0_off1 c 2#32 1#32 1#32) := ⟨![256 * (q1 0 c 1).val, 0], off1_1 c⟩
instance (c : Dev nD) : ClosedOff (k0_off2 c 2#32 1#32 1#32) := ⟨![256 * (q1 0 c 1).val, 0], off2_1 c⟩
instance (c : Dev nD) : ClosedOff (k0_off1 c 4#32 0#32 0#32) := ⟨![256 * (q1 0 c 2).val, 0], off1_2 c⟩
instance (c : Dev nD) : ClosedOff (k0_off2 c 4#32 0#32 0#32) := ⟨![256 * (q1 0 c 2).val, 0], off2_2 c⟩
instance (c : Dev nD) : ClosedOff (k0_off1 c 6#32 1#32 1#32) := ⟨![256 * (q1 0 c 3).val, 0], off1_3 c⟩
instance (c : Dev nD) : ClosedOff (k0_off2 c 6#32 1#32 1#32) := ⟨![256 * (q1 0 c 3).val, 0], off2_3 c⟩
instance (c : Dev nD) : ClosedOff (k0_off3 c 0#32 0#32 0#32) := ⟨![256 * (q1 1 c 0).val, 0], off3_0 c⟩
instance (c : Dev nD) : ClosedOff (k0_off4 c 0#32 0#32 0#32) := ⟨![256 * (q1 1 c 0).val, 0], off4_0 c⟩
instance (c : Dev nD) : ClosedOff (k0_off3 c 4#32 0#32 0#32) := ⟨![256 * (q1 1 c 1).val, 0], off3_1 c⟩
instance (c : Dev nD) : ClosedOff (k0_off4 c 4#32 0#32 0#32) := ⟨![256 * (q1 1 c 1).val, 0], off4_1 c⟩
instance (c : Dev nD) : ClosedOff (k0_off3 c 0#32 1#32 2#32) := ⟨![256 * (q1 1 c 2).val, 0], off3_2 c⟩
instance (c : Dev nD) : ClosedOff (k0_off4 c 0#32 1#32 2#32) := ⟨![256 * (q1 1 c 2).val, 0], off4_2 c⟩
instance (c : Dev nD) : ClosedOff (k0_off3 c 4#32 1#32 2#32) := ⟨![256 * (q1 1 c 3).val, 0], off3_3 c⟩
instance (c : Dev nD) : ClosedOff (k0_off4 c 4#32 1#32 2#32) := ⟨![256 * (q1 1 c 3).val, 0], off4_3 c⟩
instance (c : Dev nD) : ClosedOff (k0_off5 c 0#32 0#32) := ⟨![256 * (q1 2 c 0).val, 0], off5_0 c⟩
instance (c : Dev nD) : ClosedOff (k0_off6 c 0#32 0#32) := ⟨![256 * (q1 2 c 0).val, 0], off6_0 c⟩
instance (c : Dev nD) : ClosedOff (k0_off5 c 0#32 1#32) := ⟨![256 * (q1 2 c 1).val, 0], off5_1 c⟩
instance (c : Dev nD) : ClosedOff (k0_off6 c 0#32 1#32) := ⟨![256 * (q1 2 c 1).val, 0], off6_1 c⟩
instance (c : Dev nD) : ClosedOff (k0_off5 c 2#32 1#32) := ⟨![256 * (q1 2 c 2).val, 0], off5_2 c⟩
instance (c : Dev nD) : ClosedOff (k0_off6 c 2#32 1#32) := ⟨![256 * (q1 2 c 2).val, 0], off6_2 c⟩
instance (c : Dev nD) : ClosedOff (k0_off5 c 2#32 0#32) := ⟨![256 * (q1 2 c 3).val, 0], off5_3 c⟩
instance (c : Dev nD) : ClosedOff (k0_off6 c 2#32 0#32) := ⟨![256 * (q1 2 c 3).val, 0], off6_3 c⟩
instance (c : Dev nD) : ClosedOff (k0_off7 c 0#32) := ⟨![256 * (q2 0 c 0).val, 0], off7_0 c⟩
instance (c : Dev nD) : ClosedOff (k0_off8 c 0#32) := ⟨![256 * (q2 0 c 0).val, 0], off8_0 c⟩
instance (c : Dev nD) : ClosedOff (k0_off9 c 0#32) := ⟨![256 * (q2 0 c 0).val, 0], off9_0 c⟩
instance (c : Dev nD) : ClosedOff (k0_off7 c 4#32) := ⟨![256 * (q2 0 c 1).val, 0], off7_1 c⟩
instance (c : Dev nD) : ClosedOff (k0_off8 c 4#32) := ⟨![256 * (q2 0 c 1).val, 0], off8_1 c⟩
instance (c : Dev nD) : ClosedOff (k0_off9 c 4#32) := ⟨![256 * (q2 0 c 1).val, 0], off9_1 c⟩
instance (c : Dev nD) : ClosedOff (k0_off10 c 0#32 0#32) := ⟨![256 * (q2 1 c 0).val, 0], off10_0 c⟩
instance (c : Dev nD) : ClosedOff (k0_off11 c 0#32 0#32) := ⟨![256 * (q2 1 c 0).val, 0], off11_0 c⟩
instance (c : Dev nD) : ClosedOff (k0_off12 c 0#32 0#32) := ⟨![256 * (q2 1 c 0).val, 0], off12_0 c⟩
instance (c : Dev nD) : ClosedOff (k0_off10 c 1#32 2#32) := ⟨![256 * (q2 1 c 1).val, 0], off10_1 c⟩
instance (c : Dev nD) : ClosedOff (k0_off11 c 1#32 2#32) := ⟨![256 * (q2 1 c 1).val, 0], off11_1 c⟩
instance (c : Dev nD) : ClosedOff (k0_off12 c 1#32 2#32) := ⟨![256 * (q2 1 c 1).val, 0], off12_1 c⟩
instance (c : Dev nD) : ClosedOff (k0_off13 c 0#32 0#32 0#32) := ⟨![256 * (q2 2 c 0).val, 0], off13_0 c⟩
instance (c : Dev nD) : ClosedOff (k0_off14 c 0#32 0#32 0#32) := ⟨![256 * (q2 2 c 0).val, 0], off14_0 c⟩
instance (c : Dev nD) : ClosedOff (k0_off15 c 0#32 0#32 0#32) := ⟨![256 * (q2 2 c 0).val, 0], off15_0 c⟩
instance (c : Dev nD) : ClosedOff (k0_off13 c 2#32 1#32 1#32) := ⟨![256 * (q2 2 c 1).val, 0], off13_1 c⟩
instance (c : Dev nD) : ClosedOff (k0_off14 c 2#32 1#32 1#32) := ⟨![256 * (q2 2 c 1).val, 0], off14_1 c⟩
instance (c : Dev nD) : ClosedOff (k0_off15 c 2#32 1#32 1#32) := ⟨![256 * (q2 2 c 1).val, 0], off15_1 c⟩
instance (c : Dev nD) : ClosedOff (k0_off16 c 0#32) := ⟨![(s12 0 c 0).val, 0, 0], off16_0 c⟩
instance (c : Dev nD) : ClosedOff (k0_off16 c 2#32) := ⟨![(s12 0 c 1).val, 0, 0], off16_1 c⟩
instance (c : Dev nD) : ClosedOff (k0_off17 c 0#32) := ⟨![(s12 1 c 0).val, 0, 0], off17_0 c⟩
instance (c : Dev nD) : ClosedOff (k0_off17 c 2#32) := ⟨![(s12 1 c 1).val, 0, 0], off17_1 c⟩
instance (c : Dev nD) : ClosedOff (k0_off18 c 0#32) := ⟨![(s12 2 c 0).val, 0, 0], off18_0 c⟩
instance (c : Dev nD) : ClosedOff (k0_off18 c 2#32) := ⟨![(s12 2 c 1).val, 0, 0], off18_1 c⟩
instance (c : Dev nD) : ClosedOff (k0_off19 c 0#32) := ⟨![256 * (q3 0 c 0).val, 0], off19_0 c⟩
instance (c : Dev nD) : ClosedOff (k0_off20 c 0#32) := ⟨![256 * (q3 0 c 0).val, 0], off20_0 c⟩
instance (c : Dev nD) : ClosedOff (k0_off21 c 0#32) := ⟨![256 * (q3 0 c 0).val, 0], off21_0 c⟩
instance (c : Dev nD) : ClosedOff (k0_off19 c 4#32) := ⟨![256 * (q3 0 c 1).val, 0], off19_1 c⟩
instance (c : Dev nD) : ClosedOff (k0_off20 c 4#32) := ⟨![256 * (q3 0 c 1).val, 0], off20_1 c⟩
instance (c : Dev nD) : ClosedOff (k0_off21 c 4#32) := ⟨![256 * (q3 0 c 1).val, 0], off21_1 c⟩
instance (c : Dev nD) : ClosedOff (k0_off22 c 0#32 0#32) := ⟨![256 * (q3 1 c 0).val, 0], off22_0 c⟩
instance (c : Dev nD) : ClosedOff (k0_off23 c 0#32 0#32) := ⟨![256 * (q3 1 c 0).val, 0], off23_0 c⟩
instance (c : Dev nD) : ClosedOff (k0_off24 c 0#32 0#32) := ⟨![256 * (q3 1 c 0).val, 0], off24_0 c⟩
instance (c : Dev nD) : ClosedOff (k0_off22 c 1#32 2#32) := ⟨![256 * (q3 1 c 1).val, 0], off22_1 c⟩
instance (c : Dev nD) : ClosedOff (k0_off23 c 1#32 2#32) := ⟨![256 * (q3 1 c 1).val, 0], off23_1 c⟩
instance (c : Dev nD) : ClosedOff (k0_off24 c 1#32 2#32) := ⟨![256 * (q3 1 c 1).val, 0], off24_1 c⟩
instance (c : Dev nD) : ClosedOff (k0_off25 c 0#32 0#32 0#32) := ⟨![256 * (q3 2 c 0).val, 0], off25_0 c⟩
instance (c : Dev nD) : ClosedOff (k0_off26 c 0#32 0#32 0#32) := ⟨![256 * (q3 2 c 0).val, 0], off26_0 c⟩
instance (c : Dev nD) : ClosedOff (k0_off27 c 0#32 0#32 0#32) := ⟨![256 * (q3 2 c 0).val, 0], off27_0 c⟩
instance (c : Dev nD) : ClosedOff (k0_off25 c 2#32 1#32 1#32) := ⟨![256 * (q3 2 c 1).val, 0], off25_1 c⟩
instance (c : Dev nD) : ClosedOff (k0_off26 c 2#32 1#32 1#32) := ⟨![256 * (q3 2 c 1).val, 0], off26_1 c⟩
instance (c : Dev nD) : ClosedOff (k0_off27 c 2#32 1#32 1#32) := ⟨![256 * (q3 2 c 1).val, 0], off27_1 c⟩
instance (c : Dev nD) : ClosedOff (k0_off28 c ) := ⟨![256 * (q3 0 c (s23 0 c)).val, 0], off28_0 c⟩
instance (c : Dev nD) : ClosedOff (k0_off29 c ) := ⟨![(s13 0 c).val, 0, 0], off29_0 c⟩
instance (c : Dev nD) : ClosedOff (k0_off30 c ) := ⟨![(s23 0 c).val, 0, 0], off30_0 c⟩
instance (c : Dev nD) : ClosedOff (k0_off31 c ) := ⟨![256 * (q3 1 c (s23 1 c)).val, 0], off31_0 c⟩
instance (c : Dev nD) : ClosedOff (k0_off32 c ) := ⟨![(s13 1 c).val, 0, 0], off32_0 c⟩
instance (c : Dev nD) : ClosedOff (k0_off33 c ) := ⟨![(s23 1 c).val, 0, 0], off33_0 c⟩
instance (c : Dev nD) : ClosedOff (k0_off34 c ) := ⟨![256 * (q3 2 c (s23 2 c)).val, 0], off34_0 c⟩
instance (c : Dev nD) : ClosedOff (k0_off35 c ) := ⟨![(s13 2 c).val, 0, 0], off35_0 c⟩
instance (c : Dev nD) : ClosedOff (k0_off36 c ) := ⟨![(s23 2 c).val, 0, 0], off36_0 c⟩
instance (c : Dev nD) : ClosedOff (k0_off37 c) := ⟨![256 * c.val, 0], off37_0 c⟩
instance (c : Dev nD) : ClosedOff (k0_off38 c) := ⟨![256 * c.val, 0], off38_0 c⟩
instance (c : Dev nD) : ClosedOff (k0_off43 c) := ⟨![256 * c.val, 0], off43_0 c⟩
instance (c : Dev nD) : ClosedOff (k0_off39 c ) := ⟨![(s1o 0 c).val, 0, 0], off39_0 c⟩
instance (c : Dev nD) : ClosedOff (k0_off40 c ) := ⟨![(s2o 0 c).val, 0, 0], off40_0 c⟩
instance (c : Dev nD) : ClosedOff (k0_off41 c ) := ⟨![(s1o 1 c).val, 0, 0], off41_0 c⟩
instance (c : Dev nD) : ClosedOff (k0_off42 c ) := ⟨![(s2o 1 c).val, 0, 0], off42_0 c⟩
instance (c : Dev nD) : ClosedOff (k0_off44 c ) := ⟨![(s1o 2 c).val, 0, 0], off44_0 c⟩
instance (c : Dev nD) : ClosedOff (k0_off45 c ) := ⟨![(s2o 2 c).val, 0, 0], off45_0 c⟩

/-! ## Slots and rows -/

section Slots
variable {κ : Kind} {sp : Space} {e : EltTy} {n a b : ℕ} (v : View sig κ sp ⟨3, ![n, a, b]⟩ e) (f : v.ty.Contents (Elt F))

theorem slot_last {off : Fin 3 → ℕ} (inb) (w : (⟨3, ![1, a, b]⟩ : Shape).Idx → Elt F e) (L : List (View.Piece (Elt F) ⟨3, ![n, a, b]⟩ e)) (s : Fin n)
    (h : off = ![s.val, 0, 0]) :
    slotOf (v.read (Elt F) (v.writes (Elt F) f (⟨Rect.unit (s := ⟨3, ![n, a, b]⟩) off (⟨3, ![1, a, b]⟩ : Shape).size inb, w⟩ :: L))) s = w := by
  rw [View.read_writes_cons_put v f inb w L h]
  exact VecWindow.window_put_same _ _ _ _ _

theorem slot_skip {off : Fin 3 → ℕ} (inb) (w : (⟨3, ![1, a, b]⟩ : Shape).Idx → Elt F e) (L : List (View.Piece (Elt F) ⟨3, ![n, a, b]⟩ e)) (s s' : Fin n)
    (h : off = ![s'.val, 0, 0]) (hs : s ≠ s') :
    slotOf (v.read (Elt F) (v.writes (Elt F) f (⟨Rect.unit (s := ⟨3, ![n, a, b]⟩) off (⟨3, ![1, a, b]⟩ : Shape).size inb, w⟩ :: L))) s
      = slotOf (v.read (Elt F) (v.writes (Elt F) f L)) s := by
  rw [View.read_writes_cons_put v f inb w L h]
  refine VecWindow.window_put_of_disjoint _ _ _ _ _ _ _ (0 : Fin 3) ?_
  have : s.val ≠ s'.val := fun h => hs (Fin.ext h)
  show s.val + 1 ≤ s'.val ∨ s'.val + 1 ≤ s.val
  omega
end Slots

section Slots
variable {κ : Kind} {sp : Space} {e : EltTy} {a b : ℕ}

theorem slots4 (v : View sig κ sp ⟨3, ![4, a, b]⟩ e) (f : v.ty.Contents (Elt F)) (i0) (i1) (i2) (i3)
    (w0 w1 w2 w3 : (⟨3, ![1, a, b]⟩ : Shape).Idx → Elt F e) (M : Fin 4 → (⟨3, ![1, a, b]⟩ : Shape).Idx → Elt F e)
    (h0 : w0 = M 0) (h1 : w1 = M 1) (h2 : w2 = M 2) (h3 : w3 = M 3) (s : Fin 4) :
    slotOf (v.read (Elt F) (v.writes (Elt F) f [⟨Rect.unit (s := ⟨3, ![4, a, b]⟩) ![3, 0, 0] (⟨3, ![1, a, b]⟩ : Shape).size i3, w3⟩,
      ⟨Rect.unit (s := ⟨3, ![4, a, b]⟩) ![2, 0, 0] (⟨3, ![1, a, b]⟩ : Shape).size i2, w2⟩,
      ⟨Rect.unit (s := ⟨3, ![4, a, b]⟩) ![1, 0, 0] (⟨3, ![1, a, b]⟩ : Shape).size i1, w1⟩,
      ⟨Rect.unit (s := ⟨3, ![4, a, b]⟩) ![0, 0, 0] (⟨3, ![1, a, b]⟩ : Shape).size i0, w0⟩])) s = M s := by
  subst h0 h1 h2 h3
  match s with
  | 3 => exact slot_last v f i3 _ _ 3 rfl
  | 2 => rw [slot_skip v f i3 _ _ 2 3 rfl (by decide)]; exact slot_last v f i2 _ _ 2 rfl
  | 1 => rw [slot_skip v f i3 _ _ 1 3 rfl (by decide), slot_skip v f i2 _ _ 1 2 rfl (by decide)]; exact slot_last v f i1 _ _ 1 rfl
  | 0 => rw [slot_skip v f i3 _ _ 0 3 rfl (by decide), slot_skip v f i2 _ _ 0 2 rfl (by decide), slot_skip v f i1 _ _ 0 1 rfl (by decide)]
         exact slot_last v f i0 _ _ 0 rfl

theorem slots2 (v : View sig κ sp ⟨3, ![2, a, b]⟩ e) (f : v.ty.Contents (Elt F)) (i0) (i1)
    (w0 w1 : (⟨3, ![1, a, b]⟩ : Shape).Idx → Elt F e) (M : Fin 2 → (⟨3, ![1, a, b]⟩ : Shape).Idx → Elt F e)
    (h0 : w0 = M 0) (h1 : w1 = M 1) (s : Fin 2) :
    slotOf (v.read (Elt F) (v.writes (Elt F) f [⟨Rect.unit (s := ⟨3, ![2, a, b]⟩) ![1, 0, 0] (⟨3, ![1, a, b]⟩ : Shape).size i1, w1⟩,
      ⟨Rect.unit (s := ⟨3, ![2, a, b]⟩) ![0, 0, 0] (⟨3, ![1, a, b]⟩ : Shape).size i0, w0⟩])) s = M s := by
  subst h0 h1
  match s with
  | 1 => exact slot_last v f i1 _ _ 1 rfl
  | 0 => rw [slot_skip v f i1 _ _ 0 1 rfl (by decide)]; exact slot_last v f i0 _ _ 0 rfl

theorem slots1 (v : View sig κ sp ⟨3, ![1, a, b]⟩ e) (f : v.ty.Contents (Elt F)) (i0)
    (w0 : (⟨3, ![1, a, b]⟩ : Shape).Idx → Elt F e) (M : Fin 1 → (⟨3, ![1, a, b]⟩ : Shape).Idx → Elt F e)
    (h0 : w0 = M 0) (s : Fin 1) :
    slotOf (v.read (Elt F) (v.writes (Elt F) f [⟨Rect.unit (s := ⟨3, ![1, a, b]⟩) ![0, 0, 0] (⟨3, ![1, a, b]⟩ : Shape).size i0, w0⟩])) s = M s := by
  subst h0
  match s with
  | 0 => exact slot_last v f i0 _ _ 0 rfl
end Slots

section Rows
variable {κ : Kind} {sp : Space} {e : EltTy} {b : ℕ} (v : View sig κ sp ⟨2, ![2048, b]⟩ e) (f : v.ty.Contents (Elt F))

theorem rows_last {off : Fin 2 → ℕ} (inb) (w : (⟨2, ![256, b]⟩ : Shape).Idx → Elt F e) (L : List (View.Piece (Elt F) ⟨2, ![2048, b]⟩ e)) (q : Fin 8)
    (h : off = ![256 * q.val, 0]) :
    rowsOf (v.read (Elt F) (v.writes (Elt F) f (⟨Rect.unit (s := ⟨2, ![2048, b]⟩) off (⟨2, ![256, b]⟩ : Shape).size inb, w⟩ :: L))) q = w := by
  rw [View.read_writes_cons_put v f inb w L h]
  exact VecWindow.window_put_same _ _ _ _ _

theorem rows_skip {off : Fin 2 → ℕ} (inb) (w : (⟨2, ![256, b]⟩ : Shape).Idx → Elt F e) (L : List (View.Piece (Elt F) ⟨2, ![2048, b]⟩ e)) (q q' : Fin 8)
    (h : off = ![256 * q'.val, 0]) (hq : q ≠ q') :
    rowsOf (v.read (Elt F) (v.writes (Elt F) f (⟨Rect.unit (s := ⟨2, ![2048, b]⟩) off (⟨2, ![256, b]⟩ : Shape).size inb, w⟩ :: L))) q
      = rowsOf (v.read (Elt F) (v.writes (Elt F) f L)) q := by
  rw [View.read_writes_cons_put v f inb w L h]
  refine VecWindow.window_put_of_disjoint _ _ _ _ _ _ _ (0 : Fin 2) ?_
  have : q.val ≠ q'.val := fun h => hq (Fin.ext h)
  show 256 * q.val + 256 ≤ 256 * q'.val ∨ 256 * q'.val + 256 ≤ 256 * q.val
  omega

theorem rows2 (q : Fin 2 → Fin 8) (inb0 : ∀ a, (![256 * (q 0).val, 0] : Fin 2 → ℕ) a + (⟨2, ![256, b]⟩ : Shape).size a ≤ (⟨2, ![2048, b]⟩ : Shape).size a)
    (inb1 : ∀ a, (![256 * (q 1).val, 0] : Fin 2 → ℕ) a + (⟨2, ![256, b]⟩ : Shape).size a ≤ (⟨2, ![2048, b]⟩ : Shape).size a)
    (w0 w1 : (⟨2, ![256, b]⟩ : Shape).Idx → Elt F e) (hq : q 0 ≠ q 1)
    (P : Fin 8 → (⟨2, ![256, b]⟩ : Shape).Idx → Elt F e) (h0 : w0 = P (q 0)) (h1 : w1 = P (q 1)) (v' : Fin 2) :
    rowsOf (v.read (Elt F) (v.writes (Elt F) f [⟨Rect.unit (s := ⟨2, ![2048, b]⟩) ![256 * (q 1).val, 0] (⟨2, ![256, b]⟩ : Shape).size inb1, w1⟩,
      ⟨Rect.unit (s := ⟨2, ![2048, b]⟩) ![256 * (q 0).val, 0] (⟨2, ![256, b]⟩ : Shape).size inb0, w0⟩])) (q v') = P (q v') := by
  match v' with
  | 1 => exact (rows_last v f inb1 w1 _ (q 1) rfl).trans h1
  | 0 => exact (rows_skip v f inb1 w1 _ (q 0) (q 1) rfl hq).trans ((rows_last v f inb0 w0 _ (q 0) rfl).trans h0)
end Rows

section Cols
variable {κ : Kind} {sp : Space} {e : EltTy} (v : View sig κ sp ⟨2, ![256, 1024]⟩ e) (f : v.ty.Contents (Elt F))

/-- The columns `o` to `o + w` of a buffer of 256 rows. -/
abbrev colsOf {α : Type} (f : (⟨2, ![256, 1024]⟩ : Shape).Idx → α) (o w : ℕ) (h : ∀ a, (![0, o] : Fin 2 → ℕ) a + (⟨2, ![256, w]⟩ : Shape).size a ≤ (⟨2, ![256, 1024]⟩ : Shape).size a) :
    (⟨2, ![256, w]⟩ : Shape).Idx → α := VecWindow.window f ![0, o] (⟨2, ![256, w]⟩ : Shape).size h

theorem cols_last (o wd : ℕ) (inb : ∀ a, (![0, o] : Fin 2 → ℕ) a + (⟨2, ![256, wd]⟩ : Shape).size a ≤ (⟨2, ![256, 1024]⟩ : Shape).size a)
    (w : (⟨2, ![256, wd]⟩ : Shape).Idx → Elt F e) (L : List (View.Piece (Elt F) ⟨2, ![256, 1024]⟩ e)) :
    colsOf (v.read (Elt F) (v.writes (Elt F) f (⟨Rect.unit (s := ⟨2, ![256, 1024]⟩) ![0, o] (⟨2, ![256, wd]⟩ : Shape).size inb, w⟩ :: L))) o wd inb = w := by
  rw [View.read_writes_cons_put v f inb w L rfl]
  exact VecWindow.window_put_same _ _ _ _ _

theorem cols_skip (o wd o' wd' : ℕ) (inb : ∀ a, (![0, o] : Fin 2 → ℕ) a + (⟨2, ![256, wd]⟩ : Shape).size a ≤ (⟨2, ![256, 1024]⟩ : Shape).size a)
    (inb' : ∀ a, (![0, o'] : Fin 2 → ℕ) a + (⟨2, ![256, wd']⟩ : Shape).size a ≤ (⟨2, ![256, 1024]⟩ : Shape).size a)
    (w : (⟨2, ![256, wd]⟩ : Shape).Idx → Elt F e) (L : List (View.Piece (Elt F) ⟨2, ![256, 1024]⟩ e)) (h : o' + wd' ≤ o) :
    colsOf (v.read (Elt F) (v.writes (Elt F) f (⟨Rect.unit (s := ⟨2, ![256, 1024]⟩) ![0, o] (⟨2, ![256, wd]⟩ : Shape).size inb, w⟩ :: L))) o' wd' inb'
      = colsOf (v.read (Elt F) (v.writes (Elt F) f L)) o' wd' inb' := by
  rw [View.read_writes_cons_put v f inb w L rfl]
  exact VecWindow.window_put_of_disjoint _ _ _ _ _ _ _ (1 : Fin 2) (Or.inl h)
end Cols

section Out
variable (m : (ℓ : Loc nD τ sig) → Buf (Elt F) ℓ) (ρ : Dev nD → PrngReg)

/-- Contents with the three sections' results in their columns are the result. -/
theorem eq_outAt (c : Dev nD) (f : (cc0_stg5_0 : Ref sig .tc).ty.Contents (Elt F))
    (hA : colsOf f 0 384 inb_S256x1024_S256x384_0_0 = resA m ρ c)
    (hB : colsOf f 384 384 inb_S256x1024_S256x384_0_384 = resB m ρ c)
    (hC : colsOf f 768 256 inb_S256x1024_S256x256_0_768 = resC m ρ c) : f = outAt m ρ c := by
  funext i
  have h0 : (i 0).val < 256 := (i 0).isLt
  have h1 : (i 1).val < 1024 := (i 1).isLt
  unfold outAt
  split_ifs with h h'
  · rw [← hA]
    refine congrArg f (funext fun a => Fin.ext ?_)
    match a with
    | 0 => show (i 0).val = 0 + 1 * (i 0).val; omega
    | 1 => show (i 1).val = 0 + 1 * (i 1).val; omega
  · rw [← hB]
    refine congrArg f (funext fun a => Fin.ext ?_)
    match a with
    | 0 => show (i 0).val = 0 + 1 * (i 0).val; omega
    | 1 => show (i 1).val = 384 + 1 * ((i 1).val - 384); omega
  · rw [← hC]
    refine congrArg f (funext fun a => Fin.ext ?_)
    match a with
    | 0 => show (i 0).val = 0 + 1 * (i 0).val; omega
    | 1 => show (i 1).val = 768 + 1 * ((i 1).val - 768); omega
end Out

/-! ## The two tables every device makes first -/

section Tables
variable (m : (ℓ : Loc nD τ sig) → Buf (Elt F) ℓ) (ρ : Dev nD → PrngReg)

theorem hz2 : (![0, 0] : Fin 2 → ℕ) = fun _ => 0 := funext fun a => by fin_cases a <;> rfl
theorem hz3 : (![0, 0, 0] : Fin 3 → ℕ) = fun _ => 0 := funext fun a => by fin_cases a <;> rfl

theorem whole_store {b : Ref sig .tc} (f : b.ty.Contents (Elt F)) {off : Fin b.ty.shape.rank → ℕ}
    (inb : ∀ a, off a + b.ty.shape.size a ≤ b.ty.shape.size a) (w : b.ty.Contents (Elt F)) :
    (Memref.whole b : Memref sig .tc _ _ _).view.writes (Elt F) f [⟨Rect.unit off b.ty.shape.size inb, w⟩] = w :=
  View.read_writes_full (Memref.whole b : Memref sig .tc _ _ _).view f inb w []

theorem ptok_store (c : Dev nD) (f : (cc0_scratch0 : Ref sig .tc).ty.Contents (Elt F)) :
    (Memref.whole cc0_scratch0 : Memref sig .tc _ _ _).view.writes (Elt F) f [⟨Rect.unit ![0, 0] S2048x1.size inb_S2048x1_S2048x1_0_0,
      k0_pay1 (View.readAt (Elt F) (Memref.whole cc0_stg0_0).view (Rect.unit ![0, 0] S2048x512.size inb_S2048x512_S2048x512_0_0).toLoadRect (st0 m ρ c))
        (View.readAt (Elt F) (Memref.whole cc0_stg1_0).view (Rect.unit ![0, 0] S512x64.size inb_S512x64_S512x64_0_0).toLoadRect (st1 m ρ c))
        (View.readAt (Elt F) (Memref.whole cc0_stg2_0).view (Rect.unit ![0, 0] S2048x1.size inb_S2048x1_S2048x1_0_0).toLoadRect (st2 m ρ c))⟩]
    = ptok m ρ c := by
  have h0 := Memref.readAt_unit_zero (Elt F) cc0_stg0_0 hz2 inb_S2048x512_S2048x512_0_0 (st0 m ρ c)
  have h1 := Memref.readAt_unit_zero (Elt F) cc0_stg1_0 hz2 inb_S512x64_S512x64_0_0 (st1 m ρ c)
  have h2 := Memref.readAt_unit_zero (Elt F) cc0_stg2_0 hz2 inb_S2048x1_S2048x1_0_0 (st2 m ρ c)
  refine (whole_store (b := cc0_scratch0) f inb_S2048x1_S2048x1_0_0 _).trans ?_
  unfold ptok
  exact congr (congr (congrArg k0_pay1 h0) h1) h2

theorem ew_store (c : Dev nD) (f : (cc0_scratch1 : Ref sig .tc).ty.Contents (Elt F)) :
    (Memref.whole cc0_scratch1 : Memref sig .tc _ _ _).view.writes (Elt F) f [⟨Rect.unit ![0, 0, 0] S8x512x1024.size inb_S8x512x1024_S8x512x1024_0_0_0,
      k0_pay2 (View.readAt (Elt F) (Memref.whole cc0_stg3_0).view (Rect.unit ![0, 0, 0] S8x512x1024.size inb_S8x512x1024_S8x512x1024_0_0_0).toLoadRect (st3 m ρ c))⟩]
    = ew m ρ c := by
  have h0 := Memref.readAt_unit_zero (Elt F) cc0_stg3_0 hz3 inb_S8x512x1024_S8x512x1024_0_0_0 (st3 m ρ c)
  refine (whole_store (b := cc0_scratch1) f inb_S8x512x1024_S8x512x1024_0_0_0 _).trans ?_
  unfold ew
  exact congrArg k0_pay2 h0
end Tables

end Cert.CubeProof
end
-- ==== Proof.Body.lean ====
/-
The body on one device, from its start to its end: one step after the other, by the rules of Steps.lean and the windows of
Reads.lean.  It starts with its tokens and its buffers and ends with the result written and every buffer returned.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Reads
public import Idealize.ShloMosaic.Lib.Pipeline.Launch
public import Idealize.ShloMosaic.Lib.Tactic
public import Idealize.ShloMosaic.Lib.Pipeline.Kit

@[expose] public section

noncomputable section

namespace Cert.CubeProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Kd → ℕ)

abbrev prog : Prog (TpuEff nD τ sig (Elt F) Λ₀ .tc) PUnit := cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) cc0_scratch23 cc0_scratch24

/-- What a device may spend: its own side of each of its messages, and its partner's. -/
def toks (c : Dev nD) : sProp 𝕄 :=
  iprop(sigTok m ρ K c 0 ∗ sigTok m ρ K c 1 ∗ sigTok m ρ K c 2 ∗ waitTok m ρ K c none ∗ cred (tallyAt (barCell c) () 3)
    ∗ sendTok m ρ K c 0 ∗ waitTok m ρ K c (some (false, 0)) ∗ waitTok m ρ K c (some (true, 0)) ∗ crdTok c true 0
    ∗ sendTok m ρ K c 1 ∗ waitTok m ρ K c (some (false, 1)) ∗ waitTok m ρ K c (some (true, 1)) ∗ crdTok c true 1
    ∗ sendTok m ρ K c 2 ∗ waitTok m ρ K c (some (false, 2)) ∗ waitTok m ρ K c (some (true, 2)) ∗ crdTok c true 2
    ∗ sendTok m ρ K c 3 ∗ waitTok m ρ K c (some (false, 3)) ∗ waitTok m ρ K c (some (true, 3)) ∗ crdTok c true 3
    ∗ sendTok m ρ K c 4 ∗ waitTok m ρ K c (some (false, 4)) ∗ waitTok m ρ K c (some (true, 4)) ∗ crdTok c true 4
    ∗ sendTok m ρ K c 5 ∗ waitTok m ρ K c (some (false, 5)) ∗ waitTok m ρ K c (some (true, 5)) ∗ crdTok c true 5
    ∗ sendTok m ρ K c 6 ∗ waitTok m ρ K c (some (false, 6)) ∗ waitTok m ρ K c (some (true, 6)) ∗ crdTok c true 6
    ∗ sendTok m ρ K c 7 ∗ waitTok m ρ K c (some (false, 7)) ∗ waitTok m ρ K c (some (true, 7)) ∗ crdTok c true 7
    ∗ sendTok m ρ K c 8 ∗ waitTok m ρ K c (some (false, 8)) ∗ waitTok m ρ K c (some (true, 8)) ∗ crdTok c true 8)

/-- The scratch buffers, with any contents. -/
def bufs (c : Dev nD) : sProp 𝕄 :=
  iprop(anyPt c cc0_scratch0 ∗ anyPt c cc0_scratch1 ∗ anyPt c cc0_scratch2 ∗ anyPt c cc0_scratch3 ∗ anyPt c cc0_scratch4 ∗ anyPt c cc0_scratch5 ∗ anyPt c cc0_scratch6 ∗ anyPt c cc0_scratch7 ∗ anyPt c cc0_scratch8 ∗ anyPt c cc0_scratch9 ∗ anyPt c cc0_scratch10 ∗ anyPt c cc0_scratch11 ∗ anyPt c cc0_scratch12 ∗ anyPt c cc0_scratch13
   ∗ barPay (flip 0 c) 0 ∗ barPay (flip 1 c) 1 ∗ barPay (flip 2 c) 2)

/-- What the body starts from. -/
def pre (c : Dev nD) : sProp 𝕄 :=
  iprop(toks m ρ K c ∗ bufs c ∗ levAts L lv ∗ ow c (O₀ c) ∗ pt c cc0_stg0_0 (st0 m ρ c) ∗ pt c cc0_stg1_0 (st1 m ρ c) ∗ pt c cc0_stg2_0 (st2 m ρ c) ∗ pt c cc0_stg3_0 (st3 m ρ c) ∗ pt c cc0_stg4_0 (st4 m ρ c) ∗ anyPt c cc0_stg5_0)

/-- What the body ends with. -/
def post (c : Dev nD) : sProp 𝕄 :=
  iprop(ow c 0 ∗ semVal (barCell c) 0 ∗ semVal (sendCell c 0) 0 ∗ semVal (recvCell c 0) 0 ∗ semVal (sendCell c 1) 0 ∗ semVal (recvCell c 1) 0 ∗ semVal (sendCell c 2) 0 ∗ semVal (recvCell c 2) 0 ∗ semVal (sendCell c 3) 0 ∗ semVal (recvCell c 3) 0 ∗ semVal (sendCell c 4) 0 ∗ semVal (recvCell c 4) 0 ∗ semVal (sendCell c 5) 0 ∗ semVal (recvCell c 5) 0 ∗ semVal (sendCell c 6) 0 ∗ semVal (recvCell c 6) 0 ∗ semVal (sendCell c 7) 0 ∗ semVal (recvCell c 7) 0 ∗ semVal (sendCell c 8) 0 ∗ semVal (recvCell c 8) 0
    ∗ anyPt c cc0_scratch0 ∗ anyPt c cc0_scratch1 ∗ anyPt c cc0_scratch2 ∗ anyPt c cc0_scratch3 ∗ anyPt c cc0_scratch4 ∗ anyPt c cc0_scratch5 ∗ anyPt c cc0_scratch6 ∗ anyPt c cc0_scratch7 ∗ anyPt c cc0_scratch8 ∗ anyPt c cc0_scratch9 ∗ anyPt c cc0_scratch10 ∗ anyPt c cc0_scratch11 ∗ anyPt c cc0_scratch12 ∗ anyPt c cc0_scratch13 ∗ anyPt c cc0_scratch14 ∗ anyPt c cc0_scratch15 ∗ anyPt c cc0_scratch16 ∗ anyPt c cc0_scratch17 ∗ anyPt c cc0_scratch18 ∗ anyPt c cc0_scratch19 ∗ anyPt c cc0_scratch20 ∗ anyPt c cc0_scratch21 ∗ anyPt c cc0_scratch22
    ∗ pt c cc0_stg0_0 (st0 m ρ c) ∗ pt c cc0_stg1_0 (st1 m ρ c) ∗ pt c cc0_stg2_0 (st2 m ρ c) ∗ pt c cc0_stg3_0 (st3 m ρ c) ∗ pt c cc0_stg4_0 (st4 m ρ c) ∗ pt c cc0_stg5_0 (outAt m ρ c))

set_option sl_exec.closedLoads true in
set_option sl_exec.closedPieces true in
set_option maxHeartbeats 8000000 in
theorem sound_body (c : Dev nD) (Kt : PUnit → sProp 𝕄) :
    iprop(pre m ρ K c ∗ (post m ρ c -∗ Kt ⟨⟩))
      ⊢ wp frame (wpE (defs₀ (F := F)) 𝒱₀ (c : Thread nD τ) none) Set.univ prog Kt := by
  unfold prog
  rw [cc0_body_eq_skeleton]; unfold cc0_body_skel
  unfold pre toks bufs anyPt
  iintro ⟨⟨⟨T0, T1, T2, TB, CB, S0, WS0, WR0, C0, S1, WS1, WR1, C1, S2, WS2, WR2, C2, S3, WS3, WR3, C3, S4, WS4, WR4, C4, S5, WS5, WR5, C5, S6, WS6, WR6, C6, S7, WS7, WR7, C7, S8, WS8, WR8, C8⟩, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, P0, P1, P2⟩, #Hlev, Ho, X0, X1, X2, X3, X4, ⟨%g, X5⟩⟩, Hk⟩
  sl_exec
  iapply (wp_sig m ρ K c _ 0 (dev1_eq c) (O₂ c)) $$ [T0 P0 Ho]
  · isplitl [T0]; · iexact T0
    isplitl [P0]; · iexact P0
    iexact Ho
  iintro Ho
  sl_exec
  iapply (wp_sig m ρ K c _ 1 (dev2_eq c) (O₁ c)) $$ [T1 P1 Ho]
  · isplitl [T1]; · iexact T1
    isplitl [P1]; · iexact P1
    iexact Ho
  iintro Ho
  sl_exec
  iapply (wp_sig m ρ K c _ 2 (dev3_eq c) (owedL c order9)) $$ [T2 P2 Ho]
  · isplitl [T2]; · iexact T2
    isplitl [P2]; · iexact P2
    iexact Ho
  iintro Ho
  sl_exec
  iapply (wp_bar m ρ K c order9) $$ [TB CB Ho]
  · isplitl [TB]; · iexact TB
    isplitl [CB]; · iexact CB
    isplitl [Ho]; · iexact Ho
    iexact Hlev
  iintro ⟨Ho, ZB, Q0, Q1, Q2⟩
  unfold barPay
  icases Q0 with ⟨R0, R5, R7⟩
  icases Q1 with ⟨R1, R3, R8⟩
  icases Q2 with ⟨R2, R4, R6⟩
  (set_option sl_exec.stopBefore "k0_part4" in sl_exec)
  ihave G0 := (Entails.of_eq (congrArg (pt c cc0_scratch0) (ptok_store m ρ c f0))) $$ H0
  ihave G1 := (Entails.of_eq (congrArg (pt c cc0_scratch1) (ew_store m ρ c f1))) $$ H1
  sl_exec
  ihave J0 : full m ρ c 0 $$ [H5]
  · unfold full
    iexists _; isplitl [H5]; · iexact H5
    ipureintro
    refine slots4 (a := 256) (b := 384) (e := .bf16) (Memref.whole cc0_scratch5 : Memref sig .tc .vmem S4x256x384 .bf16).view f5  _ _ _ _ _ _ _ _ (m1A m ρ c) ?_ ?_ ?_ ?_
    · rfl
    · rfl
    · rfl
    · rfl
  iapply (wp_send0 m ρ K c _ (dev4_eq c) [3, 6, 1, 4, 7, 2, 5, 8]) $$ [S0 J0 R0 Ho]
  · isplitl [S0]; · iexact S0
    isplitl [J0]; · iexact J0
    isplitl [R0]; · iexact R0
    iexact Ho
  iintro ⟨CS0, Ho⟩
  sl_exec
  ihave J3 : full m ρ c 3 $$ [H6]
  · unfold full
    iexists _; isplitl [H6]; · iexact H6
    ipureintro
    refine slots4 (a := 256) (b := 384) (e := .bf16) (Memref.whole cc0_scratch6 : Memref sig .tc .vmem S4x256x384 .bf16).view f6  _ _ _ _ _ _ _ _ (m1B m ρ c) ?_ ?_ ?_ ?_
    · rfl
    · rfl
    · rfl
    · rfl
  iapply (wp_send3 m ρ K c _ (dev5_eq c) [6, 1, 4, 7, 2, 5, 8]) $$ [S3 J3 R3 Ho]
  · isplitl [S3]; · iexact S3
    isplitl [J3]; · iexact J3
    isplitl [R3]; · iexact R3
    iexact Ho
  iintro ⟨CS3, Ho⟩
  sl_exec
  ihave J6 : full m ρ c 6 $$ [H7]
  · unfold full
    iexists _; isplitl [H7]; · iexact H7
    ipureintro
    refine slots4 (a := 256) (b := 256) (e := .bf16) (Memref.whole cc0_scratch7 : Memref sig .tc .vmem S4x256x256 .bf16).view f7  _ _ _ _ _ _ _ _ (m1C m ρ c) ?_ ?_ ?_ ?_
    · rfl
    · rfl
    · rfl
    · rfl
  iapply (wp_send6 m ρ K c _ (dev6_eq c) [1, 4, 7, 2, 5, 8]) $$ [S6 J6 R6 Ho]
  · isplitl [S6]; · iexact S6
    isplitl [J6]; · iexact J6
    isplitl [R6]; · iexact R6
    iexact Ho
  iintro ⟨CS6, Ho⟩
  sl_exec
  ihave A2 : iprop(∃ f, pt c cc0_scratch2 f ∗ ⌜∀ v : Fin 2, rowsOf ((Memref.whole cc0_scratch2 : Memref sig .tc .vmem S2048x384 .f32).view.read (Elt F) f) (q2 0 c v) = partA m ρ c (q2 0 c v)⌝) $$ [H2]
  · iexists _; isplitl [H2]; · iexact H2
    ipureintro
    refine rows2 (b := 384) (e := .f32) (Memref.whole cc0_scratch2 : Memref sig .tc .vmem S2048x384 .f32).view f2 (q2 0 c) _ _ _ _ (q2_ne 0 c) (partA m ρ c) ?_ ?_
    · exact shapeCast_self (partA m ρ c (q2 0 c 0)) shapeCasts_S256x384_S256x384
    · exact shapeCast_self (partA m ρ c (q2 0 c 1)) shapeCasts_S256x384_S256x384
  icases A2 with ⟨%a2, H2, %ha2⟩
  ihave A3 : iprop(∃ f, pt c cc0_scratch3 f ∗ ⌜∀ v : Fin 2, rowsOf ((Memref.whole cc0_scratch3 : Memref sig .tc .vmem S2048x384 .f32).view.read (Elt F) f) (q2 1 c v) = partB m ρ c (q2 1 c v)⌝) $$ [H3]
  · iexists _; isplitl [H3]; · iexact H3
    ipureintro
    refine rows2 (b := 384) (e := .f32) (Memref.whole cc0_scratch3 : Memref sig .tc .vmem S2048x384 .f32).view f3 (q2 1 c) _ _ _ _ (q2_ne 1 c) (partB m ρ c) ?_ ?_
    · exact shapeCast_self (partB m ρ c (q2 1 c 0)) shapeCasts_S256x384_S256x384
    · exact shapeCast_self (partB m ρ c (q2 1 c 1)) shapeCasts_S256x384_S256x384
  icases A3 with ⟨%a3, H3, %ha3⟩
  ihave A4 : iprop(∃ f, pt c cc0_scratch4 f ∗ ⌜∀ v : Fin 2, rowsOf ((Memref.whole cc0_scratch4 : Memref sig .tc .vmem S2048x256 .f32).view.read (Elt F) f) (q2 2 c v) = partC m ρ c (q2 2 c v)⌝) $$ [H4]
  · iexists _; isplitl [H4]; · iexact H4
    ipureintro
    refine rows2 (b := 256) (e := .f32) (Memref.whole cc0_scratch4 : Memref sig .tc .vmem S2048x256 .f32).view f4 (q2 2 c) _ _ _ _ (q2_ne 2 c) (partC m ρ c) ?_ ?_
    · exact shapeCast_self (partC m ρ c (q2 2 c 0)) shapeCasts_S256x256_S256x256
    · exact shapeCast_self (partC m ρ c (q2 2 c 1)) shapeCasts_S256x256_S256x256
  icases A4 with ⟨%a4, H4, %ha4⟩
  iapply (wp_msg m ρ K c true 0 [1, 4, 7, 2, 5, 8] (by decide) _ rfl rfl) $$ [WR0 C0 Ho]
  · isplitl [WR0]; · iexact WR0
    isplitl [C0]; · iexact C0
    isplitl [Ho]; · iexact Ho
    iexact Hlev
  iintro ⟨Ho, ZR0, B0⟩
  simp only [pay, recvPay]
  icases B0 with ⟨%r0, %hr0, B0⟩
  have hs0 : ∀ s : Fin 4, slotOf (n := 4) (a := 256) (b := 384) r0 s = m1A m ρ (flip 0 c) s := hr0
  sl_exec
  ihave J1 : full m ρ c 1 $$ [H8]
  · unfold full
    iexists _; isplitl [H8]; · iexact H8
    ipureintro
    refine slots2 (a := 256) (b := 384) (e := .bf16) (Memref.whole cc0_scratch8 : Memref sig .tc .vmem S2x256x384 .bf16).view f8  _ _ _ _ (m2A m ρ c) ?_ ?_
    · show _ = pack384 (addf (partA m ρ c (q2 0 c 0)) (unpack384 (m1A m ρ (flip 0 c) (s12 0 c 0))))
      rw [← ha2 0, ← hs0 (s12 0 c 0)]; rfl
    · show _ = pack384 (addf (partA m ρ c (q2 0 c 1)) (unpack384 (m1A m ρ (flip 0 c) (s12 0 c 1))))
      rw [← ha2 1, ← hs0 (s12 0 c 1)]; rfl
  iapply (wp_send1 m ρ K c _ (dev7_eq c) [4, 7, 2, 5, 8]) $$ [S1 J1 R1 Ho]
  · isplitl [S1]; · iexact S1
    isplitl [J1]; · iexact J1
    isplitl [R1]; · iexact R1
    iexact Ho
  iintro ⟨CS1, Ho⟩
  sl_exec
  iapply (wp_msg m ρ K c true 3 [4, 7, 2, 5, 8] (by decide) _ rfl rfl) $$ [WR3 C3 Ho]
  · isplitl [WR3]; · iexact WR3
    isplitl [C3]; · iexact C3
    isplitl [Ho]; · iexact Ho
    iexact Hlev
  iintro ⟨Ho, ZR3, B3⟩
  simp only [pay, recvPay]
  icases B3 with ⟨%r3, %hr3, B3⟩
  have hs3 : ∀ s : Fin 4, slotOf (n := 4) (a := 256) (b := 384) r3 s = m1B m ρ (flip 1 c) s := hr3
  sl_exec
  ihave J4 : full m ρ c 4 $$ [H9]
  · unfold full
    iexists _; isplitl [H9]; · iexact H9
    ipureintro
    refine slots2 (a := 256) (b := 384) (e := .bf16) (Memref.whole cc0_scratch9 : Memref sig .tc .vmem S2x256x384 .bf16).view f9  _ _ _ _ (m2B m ρ c) ?_ ?_
    · show _ = pack384 (addf (partB m ρ c (q2 1 c 0)) (unpack384 (m1B m ρ (flip 1 c) (s12 1 c 0))))
      rw [← ha3 0, ← hs3 (s12 1 c 0)]; rfl
    · show _ = pack384 (addf (partB m ρ c (q2 1 c 1)) (unpack384 (m1B m ρ (flip 1 c) (s12 1 c 1))))
      rw [← ha3 1, ← hs3 (s12 1 c 1)]; rfl
  iapply (wp_send4 m ρ K c _ (dev8_eq c) [7, 2, 5, 8]) $$ [S4 J4 R4 Ho]
  · isplitl [S4]; · iexact S4
    isplitl [J4]; · iexact J4
    isplitl [R4]; · iexact R4
    iexact Ho
  iintro ⟨CS4, Ho⟩
  sl_exec
  iapply (wp_msg m ρ K c true 6 [7, 2, 5, 8] (by decide) _ rfl rfl) $$ [WR6 C6 Ho]
  · isplitl [WR6]; · iexact WR6
    isplitl [C6]; · iexact C6
    isplitl [Ho]; · iexact Ho
    iexact Hlev
  iintro ⟨Ho, ZR6, B6⟩
  simp only [pay, recvPay]
  icases B6 with ⟨%r6, %hr6, B6⟩
  have hs6 : ∀ s : Fin 4, slotOf (n := 4) (a := 256) (b := 256) r6 s = m1C m ρ (flip 2 c) s := hr6
  sl_exec
  ihave J7 : full m ρ c 7 $$ [H10]
  · unfold full
    iexists _; isplitl [H10]; · iexact H10
    ipureintro
    refine slots2 (a := 256) (b := 256) (e := .bf16) (Memref.whole cc0_scratch10 : Memref sig .tc .vmem S2x256x256 .bf16).view f10  _ _ _ _ (m2C m ρ c) ?_ ?_
    · show _ = pack256 (addf (partC m ρ c (q2 2 c 0)) (unpack256 (m1C m ρ (flip 2 c) (s12 2 c 0))))
      rw [← ha4 0, ← hs6 (s12 2 c 0)]; rfl
    · show _ = pack256 (addf (partC m ρ c (q2 2 c 1)) (unpack256 (m1C m ρ (flip 2 c) (s12 2 c 1))))
      rw [← ha4 1, ← hs6 (s12 2 c 1)]; rfl
  iapply (wp_send7 m ρ K c _ (dev9_eq c) [2, 5, 8]) $$ [S7 J7 R7 Ho]
  · isplitl [S7]; · iexact S7
    isplitl [J7]; · iexact J7
    isplitl [R7]; · iexact R7
    iexact Ho
  iintro ⟨CS7, Ho⟩
  sl_exec
  ihave A2 : iprop(∃ f, pt c cc0_scratch2 f ∗ ⌜∀ v : Fin 2, rowsOf ((Memref.whole cc0_scratch2 : Memref sig .tc .vmem S2048x384 .f32).view.read (Elt F) f) (q3 0 c v) = partA m ρ c (q3 0 c v)⌝) $$ [H2]
  · iexists _; isplitl [H2]; · iexact H2
    ipureintro
    refine rows2 (b := 384) (e := .f32) (Memref.whole cc0_scratch2 : Memref sig .tc .vmem S2048x384 .f32).view a2 (q3 0 c) _ _ _ _ (q3_ne 0 c) (partA m ρ c) ?_ ?_
    · exact shapeCast_self (partA m ρ c (q3 0 c 0)) shapeCasts_S256x384_S256x384
    · exact shapeCast_self (partA m ρ c (q3 0 c 1)) shapeCasts_S256x384_S256x384
  icases A2 with ⟨%e2, H2, %he2⟩
  ihave A3 : iprop(∃ f, pt c cc0_scratch3 f ∗ ⌜∀ v : Fin 2, rowsOf ((Memref.whole cc0_scratch3 : Memref sig .tc .vmem S2048x384 .f32).view.read (Elt F) f) (q3 1 c v) = partB m ρ c (q3 1 c v)⌝) $$ [H3]
  · iexists _; isplitl [H3]; · iexact H3
    ipureintro
    refine rows2 (b := 384) (e := .f32) (Memref.whole cc0_scratch3 : Memref sig .tc .vmem S2048x384 .f32).view a3 (q3 1 c) _ _ _ _ (q3_ne 1 c) (partB m ρ c) ?_ ?_
    · exact shapeCast_self (partB m ρ c (q3 1 c 0)) shapeCasts_S256x384_S256x384
    · exact shapeCast_self (partB m ρ c (q3 1 c 1)) shapeCasts_S256x384_S256x384
  icases A3 with ⟨%e3, H3, %he3⟩
  ihave A4 : iprop(∃ f, pt c cc0_scratch4 f ∗ ⌜∀ v : Fin 2, rowsOf ((Memref.whole cc0_scratch4 : Memref sig .tc .vmem S2048x256 .f32).view.read (Elt F) f) (q3 2 c v) = partC m ρ c (q3 2 c v)⌝) $$ [H4]
  · iexists _; isplitl [H4]; · iexact H4
    ipureintro
    refine rows2 (b := 256) (e := .f32) (Memref.whole cc0_scratch4 : Memref sig .tc .vmem S2048x256 .f32).view a4 (q3 2 c) _ _ _ _ (q3_ne 2 c) (partC m ρ c) ?_ ?_
    · exact shapeCast_self (partC m ρ c (q3 2 c 0)) shapeCasts_S256x256_S256x256
    · exact shapeCast_self (partC m ρ c (q3 2 c 1)) shapeCasts_S256x256_S256x256
  icases A4 with ⟨%e4, H4, %he4⟩
  iapply (wp_msg m ρ K c true 1 [2, 5, 8] (by decide) _ rfl rfl) $$ [WR1 C1 Ho]
  · isplitl [WR1]; · iexact WR1
    isplitl [C1]; · iexact C1
    isplitl [Ho]; · iexact Ho
    iexact Hlev
  iintro ⟨Ho, ZR1, B1⟩
  simp only [pay, recvPay]
  icases B1 with ⟨%r1, %hr1, B1⟩
  have hs1 : ∀ s : Fin 2, slotOf (n := 2) (a := 256) (b := 384) r1 s = m2A m ρ (flip 1 c) s := hr1
  sl_exec
  ihave J2 : full m ρ c 2 $$ [H11]
  · unfold full
    iexists _; isplitl [H11]; · iexact H11
    ipureintro
    refine slots1 (a := 256) (b := 384) (e := .bf16) (Memref.whole cc0_scratch11 : Memref sig .tc .vmem S1x256x384 .bf16).view f11  _ _ (m3A m ρ c) ?_
    · show _ = pack384 (addf (addf (partA m ρ c (q3 0 c (s23 0 c))) (unpack384 (m1A m ρ (flip 0 c) (s13 0 c)))) (unpack384 (m2A m ρ (flip 1 c) (s23 0 c))))
      rw [← he2 (s23 0 c), ← hs0 (s13 0 c), ← hs1 (s23 0 c)]; rfl
  iapply (wp_send2 m ρ K c _ (dev10_eq c) [5, 8]) $$ [S2 J2 R2 Ho]
  · isplitl [S2]; · iexact S2
    isplitl [J2]; · iexact J2
    isplitl [R2]; · iexact R2
    iexact Ho
  iintro ⟨CS2, Ho⟩
  sl_exec
  iapply (wp_msg m ρ K c true 4 [5, 8] (by decide) _ rfl rfl) $$ [WR4 C4 Ho]
  · isplitl [WR4]; · iexact WR4
    isplitl [C4]; · iexact C4
    isplitl [Ho]; · iexact Ho
    iexact Hlev
  iintro ⟨Ho, ZR4, B4⟩
  simp only [pay, recvPay]
  icases B4 with ⟨%r4, %hr4, B4⟩
  have hs4 : ∀ s : Fin 2, slotOf (n := 2) (a := 256) (b := 384) r4 s = m2B m ρ (flip 2 c) s := hr4
  sl_exec
  ihave J5 : full m ρ c 5 $$ [H12]
  · unfold full
    iexists _; isplitl [H12]; · iexact H12
    ipureintro
    refine slots1 (a := 256) (b := 384) (e := .bf16) (Memref.whole cc0_scratch12 : Memref sig .tc .vmem S1x256x384 .bf16).view f12  _ _ (m3B m ρ c) ?_
    · show _ = pack384 (addf (addf (partB m ρ c (q3 1 c (s23 1 c))) (unpack384 (m1B m ρ (flip 1 c) (s13 1 c)))) (unpack384 (m2B m ρ (flip 2 c) (s23 1 c))))
      rw [← he3 (s23 1 c), ← hs3 (s13 1 c), ← hs4 (s23 1 c)]; rfl
  iapply (wp_send5 m ρ K c _ (dev11_eq c) [8]) $$ [S5 J5 R5 Ho]
  · isplitl [S5]; · iexact S5
    isplitl [J5]; · iexact J5
    isplitl [R5]; · iexact R5
    iexact Ho
  iintro ⟨CS5, Ho⟩
  sl_exec
  iapply (wp_msg m ρ K c true 7 [8] (by decide) _ rfl rfl) $$ [WR7 C7 Ho]
  · isplitl [WR7]; · iexact WR7
    isplitl [C7]; · iexact C7
    isplitl [Ho]; · iexact Ho
    iexact Hlev
  iintro ⟨Ho, ZR7, B7⟩
  simp only [pay, recvPay]
  icases B7 with ⟨%r7, %hr7, B7⟩
  have hs7 : ∀ s : Fin 2, slotOf (n := 2) (a := 256) (b := 256) r7 s = m2C m ρ (flip 0 c) s := hr7
  sl_exec
  ihave J8 : full m ρ c 8 $$ [H13]
  · unfold full
    iexists _; isplitl [H13]; · iexact H13
    ipureintro
    refine slots1 (a := 256) (b := 256) (e := .bf16) (Memref.whole cc0_scratch13 : Memref sig .tc .vmem S1x256x256 .bf16).view f13  _ _ (m3C m ρ c) ?_
    · show _ = pack256 (addf (addf (partC m ρ c (q3 2 c (s23 2 c))) (unpack256 (m1C m ρ (flip 2 c) (s13 2 c)))) (unpack256 (m2C m ρ (flip 0 c) (s23 2 c))))
      rw [← he4 (s23 2 c), ← hs6 (s13 2 c), ← hs7 (s23 2 c)]; rfl
  iapply (wp_send8 m ρ K c _ (dev12_eq c) []) $$ [S8 J8 R8 Ho]
  · isplitl [S8]; · iexact S8
    isplitl [J8]; · iexact J8
    isplitl [R8]; · iexact R8
    iexact Ho
  iintro ⟨CS8, Ho⟩
  sl_exec
  iapply (wp_msg m ρ K c true 2 [] (by decide) _ rfl rfl) $$ [WR2 C2 Ho]
  · isplitl [WR2]; · iexact WR2
    isplitl [C2]; · iexact C2
    isplitl [Ho]; · iexact Ho
    iexact Hlev
  iintro ⟨Ho, ZR2, B2⟩
  simp only [pay, recvPay]
  icases B2 with ⟨%r2, %hr2, B2⟩
  have hs2 : ∀ s : Fin 1, slotOf (n := 1) (a := 256) (b := 384) r2 s = m3A m ρ (flip 2 c) s := hr2
  sl_exec
  have ho0 := he2 (cd 0 2 c)
  rw [q3_own] at ho0
  ihave Y0 : iprop(∃ f, pt c cc0_stg5_0 f ∗ ⌜colsOf ((Memref.whole cc0_stg5_0 : Memref sig .tc .vmem S256x1024 .f32).view.read (Elt F) f) 0 384 inb_S256x1024_S256x384_0_0 = resA m ρ c⌝) $$ [X5]
  · iexists _; isplitl [X5]; · iexact X5
    ipureintro
    refine ?_
    · refine (cols_last (e := .f32) (Memref.whole cc0_stg5_0 : Memref sig .tc .vmem S256x1024 .f32).view g 0 384 inb_S256x1024_S256x384_0_0 _ []).trans ?_
      show _ = addf (addf (addf (addf (partA m ρ c c) (unpack384 (m1A m ρ (flip 0 c) (s1o 0 c)))) (unpack384 (m2A m ρ (flip 1 c) (s2o 0 c))))
        (unpack384 (m3A m ρ (flip 2 c) 0))) (extractStridedSlice S256x384 ![0, 0] (k0_pay199 (rowsOf (st0 m ρ c) c) (st4 m ρ c)) slices_S256x1024_o0_0_S256x384)
      rw [← ho0, ← hs0 (s1o 0 c), ← hs1 (s2o 0 c), ← hs2 0]
      refine Eq.trans ?_ (congrArg (fun z => addf _ (extractStridedSlice S256x384 ![0, 0] (k0_pay199 (rowsOf (st0 m ρ c) c) z) slices_S256x1024_o0_0_S256x384))
        (Memref.readAt_unit_zero (Elt F) cc0_stg4_0 hz2 inb_S512x1024_S512x1024_0_0 (st4 m ρ c)))
      rfl
  icases Y0 with ⟨%g0, X5, %hg0⟩
  iapply (wp_msg m ρ K c true 5 [] (by decide) _ rfl rfl) $$ [WR5 C5 Ho]
  · isplitl [WR5]; · iexact WR5
    isplitl [C5]; · iexact C5
    isplitl [Ho]; · iexact Ho
    iexact Hlev
  iintro ⟨Ho, ZR5, B5⟩
  simp only [pay, recvPay]
  icases B5 with ⟨%r5, %hr5, B5⟩
  have hs5 : ∀ s : Fin 1, slotOf (n := 1) (a := 256) (b := 384) r5 s = m3B m ρ (flip 0 c) s := hr5
  sl_exec
  have ho1 := he3 (cd 1 2 c)
  rw [q3_own] at ho1
  ihave Y1 : iprop(∃ f, pt c cc0_stg5_0 f ∗ ⌜colsOf ((Memref.whole cc0_stg5_0 : Memref sig .tc .vmem S256x1024 .f32).view.read (Elt F) f) 0 384 inb_S256x1024_S256x384_0_0 = resA m ρ c ∧ colsOf ((Memref.whole cc0_stg5_0 : Memref sig .tc .vmem S256x1024 .f32).view.read (Elt F) f) 384 384 inb_S256x1024_S256x384_0_384 = resB m ρ c⌝) $$ [X5]
  · iexists _; isplitl [X5]; · iexact X5
    ipureintro
    refine ⟨?_, ?_⟩
    · exact (cols_skip (e := .f32) (Memref.whole cc0_stg5_0 : Memref sig .tc .vmem S256x1024 .f32).view g0 384 384 0 384 inb_S256x1024_S256x384_0_384 inb_S256x1024_S256x384_0_0 _ [] (by decide)).trans hg0
    · refine (cols_last (e := .f32) (Memref.whole cc0_stg5_0 : Memref sig .tc .vmem S256x1024 .f32).view g0 384 384 inb_S256x1024_S256x384_0_384 _ []).trans ?_
      show _ = addf (addf (addf (addf (partB m ρ c c) (unpack384 (m1B m ρ (flip 1 c) (s1o 1 c)))) (unpack384 (m2B m ρ (flip 2 c) (s2o 1 c))))
        (unpack384 (m3B m ρ (flip 0 c) 0))) (extractStridedSlice S256x384 ![0, 384] (k0_pay199 (rowsOf (st0 m ρ c) c) (st4 m ρ c)) slices_S256x1024_o0_384_S256x384)
      rw [← ho1, ← hs3 (s1o 1 c), ← hs4 (s2o 1 c), ← hs5 0]
      refine Eq.trans ?_ (congrArg (fun z => addf _ (extractStridedSlice S256x384 ![0, 384] (k0_pay199 (rowsOf (st0 m ρ c) c) z) slices_S256x1024_o0_384_S256x384))
        (Memref.readAt_unit_zero (Elt F) cc0_stg4_0 hz2 inb_S512x1024_S512x1024_0_0 (st4 m ρ c)))
      rfl
  icases Y1 with ⟨%g1, X5, %hg1⟩
  iapply (wp_msg m ρ K c true 8 [] (by decide) _ rfl rfl) $$ [WR8 C8 Ho]
  · isplitl [WR8]; · iexact WR8
    isplitl [C8]; · iexact C8
    isplitl [Ho]; · iexact Ho
    iexact Hlev
  iintro ⟨Ho, ZR8, B8⟩
  simp only [pay, recvPay]
  icases B8 with ⟨%r8, %hr8, B8⟩
  have hs8 : ∀ s : Fin 1, slotOf (n := 1) (a := 256) (b := 256) r8 s = m3C m ρ (flip 1 c) s := hr8
  sl_exec
  have ho2 := he4 (cd 2 2 c)
  rw [q3_own] at ho2
  ihave Y2 : iprop(∃ f, pt c cc0_stg5_0 f ∗ ⌜colsOf ((Memref.whole cc0_stg5_0 : Memref sig .tc .vmem S256x1024 .f32).view.read (Elt F) f) 0 384 inb_S256x1024_S256x384_0_0 = resA m ρ c ∧ colsOf ((Memref.whole cc0_stg5_0 : Memref sig .tc .vmem S256x1024 .f32).view.read (Elt F) f) 384 384 inb_S256x1024_S256x384_0_384 = resB m ρ c ∧ colsOf ((Memref.whole cc0_stg5_0 : Memref sig .tc .vmem S256x1024 .f32).view.read (Elt F) f) 768 256 inb_S256x1024_S256x256_0_768 = resC m ρ c⌝) $$ [X5]
  · iexists _; isplitl [X5]; · iexact X5
    ipureintro
    refine ⟨?_, ?_, ?_⟩
    · exact (cols_skip (e := .f32) (Memref.whole cc0_stg5_0 : Memref sig .tc .vmem S256x1024 .f32).view g1 768 256 0 384 inb_S256x1024_S256x256_0_768 inb_S256x1024_S256x384_0_0 _ [] (by decide)).trans hg1.1
    · exact (cols_skip (e := .f32) (Memref.whole cc0_stg5_0 : Memref sig .tc .vmem S256x1024 .f32).view g1 768 256 384 384 inb_S256x1024_S256x256_0_768 inb_S256x1024_S256x384_0_384 _ [] (by decide)).trans hg1.2
    · refine (cols_last (e := .f32) (Memref.whole cc0_stg5_0 : Memref sig .tc .vmem S256x1024 .f32).view g1 768 256 inb_S256x1024_S256x256_0_768 _ []).trans ?_
      show _ = addf (addf (addf (addf (partC m ρ c c) (unpack256 (m1C m ρ (flip 2 c) (s1o 2 c)))) (unpack256 (m2C m ρ (flip 0 c) (s2o 2 c))))
        (unpack256 (m3C m ρ (flip 1 c) 0))) (extractStridedSlice S256x256 ![0, 768] (k0_pay199 (rowsOf (st0 m ρ c) c) (st4 m ρ c)) slices_S256x1024_o0_768_S256x256)
      rw [← ho2, ← hs6 (s1o 2 c), ← hs7 (s2o 2 c), ← hs8 0]
      refine Eq.trans ?_ (congrArg (fun z => addf _ (extractStridedSlice S256x256 ![0, 768] (k0_pay199 (rowsOf (st0 m ρ c) c) z) slices_S256x1024_o0_768_S256x256))
        (Memref.readAt_unit_zero (Elt F) cc0_stg4_0 hz2 inb_S512x1024_S512x1024_0_0 (st4 m ρ c)))
      rfl
  icases Y2 with ⟨%g2, X5, %hg2⟩
  have hq0 : csem (some (false, (0 : Fin 9))) = .dma ((SemArray.slice cc0_scratch23 (Rect.unit ![0] S1.size inb_S9_S1_0)).squeeze S_ squeezes_S1_S_).sem := rfl
  have hc0 : (Memref.whole cc0_scratch5 : Memref sig .tc .vmem S4x256x384 .bf16).view.dmaCredit = crd 0 := rfl
  iapply (wp_msg m ρ K c false 0 [] (by decide) _ hq0 hc0) $$ [WS0 CS0 Ho]
  · isplitl [WS0]; · iexact WS0
    isplitl [CS0]; · iexact CS0
    isplitl [Ho]; · iexact Ho
    iexact Hlev
  iintro ⟨Ho, ZS0, E0⟩
  try simp only [Prog.lift, Prog.bind_op, Prog.bind_ret, Prog.pure_eq_ret]
  try sl_exec
  have hq3 : csem (some (false, (3 : Fin 9))) = .dma ((SemArray.slice cc0_scratch23 (Rect.unit ![3] S1.size inb_S9_S1_3)).squeeze S_ squeezes_S1_S_).sem := rfl
  have hc3 : (Memref.whole cc0_scratch6 : Memref sig .tc .vmem S4x256x384 .bf16).view.dmaCredit = crd 3 := rfl
  iapply (wp_msg m ρ K c false 3 [] (by decide) _ hq3 hc3) $$ [WS3 CS3 Ho]
  · isplitl [WS3]; · iexact WS3
    isplitl [CS3]; · iexact CS3
    isplitl [Ho]; · iexact Ho
    iexact Hlev
  iintro ⟨Ho, ZS3, E3⟩
  try simp only [Prog.lift, Prog.bind_op, Prog.bind_ret, Prog.pure_eq_ret]
  try sl_exec
  have hq6 : csem (some (false, (6 : Fin 9))) = .dma ((SemArray.slice cc0_scratch23 (Rect.unit ![6] S1.size inb_S9_S1_6)).squeeze S_ squeezes_S1_S_).sem := rfl
  have hc6 : (Memref.whole cc0_scratch7 : Memref sig .tc .vmem S4x256x256 .bf16).view.dmaCredit = crd 6 := rfl
  iapply (wp_msg m ρ K c false 6 [] (by decide) _ hq6 hc6) $$ [WS6 CS6 Ho]
  · isplitl [WS6]; · iexact WS6
    isplitl [CS6]; · iexact CS6
    isplitl [Ho]; · iexact Ho
    iexact Hlev
  iintro ⟨Ho, ZS6, E6⟩
  try simp only [Prog.lift, Prog.bind_op, Prog.bind_ret, Prog.pure_eq_ret]
  try sl_exec
  have hq1 : csem (some (false, (1 : Fin 9))) = .dma ((SemArray.slice cc0_scratch23 (Rect.unit ![1] S1.size inb_S9_S1_1)).squeeze S_ squeezes_S1_S_).sem := rfl
  have hc1 : (Memref.whole cc0_scratch8 : Memref sig .tc .vmem S2x256x384 .bf16).view.dmaCredit = crd 1 := rfl
  iapply (wp_msg m ρ K c false 1 [] (by decide) _ hq1 hc1) $$ [WS1 CS1 Ho]
  · isplitl [WS1]; · iexact WS1
    isplitl [CS1]; · iexact CS1
    isplitl [Ho]; · iexact Ho
    iexact Hlev
  iintro ⟨Ho, ZS1, E1⟩
  try simp only [Prog.lift, Prog.bind_op, Prog.bind_ret, Prog.pure_eq_ret]
  try sl_exec
  have hq4 : csem (some (false, (4 : Fin 9))) = .dma ((SemArray.slice cc0_scratch23 (Rect.unit ![4] S1.size inb_S9_S1_4)).squeeze S_ squeezes_S1_S_).sem := rfl
  have hc4 : (Memref.whole cc0_scratch9 : Memref sig .tc .vmem S2x256x384 .bf16).view.dmaCredit = crd 4 := rfl
  iapply (wp_msg m ρ K c false 4 [] (by decide) _ hq4 hc4) $$ [WS4 CS4 Ho]
  · isplitl [WS4]; · iexact WS4
    isplitl [CS4]; · iexact CS4
    isplitl [Ho]; · iexact Ho
    iexact Hlev
  iintro ⟨Ho, ZS4, E4⟩
  try simp only [Prog.lift, Prog.bind_op, Prog.bind_ret, Prog.pure_eq_ret]
  try sl_exec
  have hq7 : csem (some (false, (7 : Fin 9))) = .dma ((SemArray.slice cc0_scratch23 (Rect.unit ![7] S1.size inb_S9_S1_7)).squeeze S_ squeezes_S1_S_).sem := rfl
  have hc7 : (Memref.whole cc0_scratch10 : Memref sig .tc .vmem S2x256x256 .bf16).view.dmaCredit = crd 7 := rfl
  iapply (wp_msg m ρ K c false 7 [] (by decide) _ hq7 hc7) $$ [WS7 CS7 Ho]
  · isplitl [WS7]; · iexact WS7
    isplitl [CS7]; · iexact CS7
    isplitl [Ho]; · iexact Ho
    iexact Hlev
  iintro ⟨Ho, ZS7, E7⟩
  try simp only [Prog.lift, Prog.bind_op, Prog.bind_ret, Prog.pure_eq_ret]
  try sl_exec
  have hq2 : csem (some (false, (2 : Fin 9))) = .dma ((SemArray.slice cc0_scratch23 (Rect.unit ![2] S1.size inb_S9_S1_2)).squeeze S_ squeezes_S1_S_).sem := rfl
  have hc2 : (Memref.whole cc0_scratch11 : Memref sig .tc .vmem S1x256x384 .bf16).view.dmaCredit = crd 2 := rfl
  iapply (wp_msg m ρ K c false 2 [] (by decide) _ hq2 hc2) $$ [WS2 CS2 Ho]
  · isplitl [WS2]; · iexact WS2
    isplitl [CS2]; · iexact CS2
    isplitl [Ho]; · iexact Ho
    iexact Hlev
  iintro ⟨Ho, ZS2, E2⟩
  try simp only [Prog.lift, Prog.bind_op, Prog.bind_ret, Prog.pure_eq_ret]
  try sl_exec
  have hq5 : csem (some (false, (5 : Fin 9))) = .dma ((SemArray.slice cc0_scratch23 (Rect.unit ![5] S1.size inb_S9_S1_5)).squeeze S_ squeezes_S1_S_).sem := rfl
  have hc5 : (Memref.whole cc0_scratch12 : Memref sig .tc .vmem S1x256x384 .bf16).view.dmaCredit = crd 5 := rfl
  iapply (wp_msg m ρ K c false 5 [] (by decide) _ hq5 hc5) $$ [WS5 CS5 Ho]
  · isplitl [WS5]; · iexact WS5
    isplitl [CS5]; · iexact CS5
    isplitl [Ho]; · iexact Ho
    iexact Hlev
  iintro ⟨Ho, ZS5, E5⟩
  try simp only [Prog.lift, Prog.bind_op, Prog.bind_ret, Prog.pure_eq_ret]
  try sl_exec
  have hq8 : csem (some (false, (8 : Fin 9))) = .dma ((SemArray.slice cc0_scratch23 (Rect.unit ![8] S1.size inb_S9_S1_8)).squeeze S_ squeezes_S1_S_).sem := rfl
  have hc8 : (Memref.whole cc0_scratch13 : Memref sig .tc .vmem S1x256x256 .bf16).view.dmaCredit = crd 8 := rfl
  iapply (wp_msg m ρ K c false 8 [] (by decide) _ hq8 hc8) $$ [WS8 CS8 Ho]
  · isplitl [WS8]; · iexact WS8
    isplitl [CS8]; · iexact CS8
    isplitl [Ho]; · iexact Ho
    iexact Hlev
  iintro ⟨Ho, ZS8, E8⟩
  try simp only [Prog.lift, Prog.bind_op, Prog.bind_ret, Prog.pure_eq_ret]
  try sl_exec
  rw [wp_ret]; imodintro
  iapply Hk
  unfold post
  isplitl [Ho]; · iexact Ho
  isplitl [ZB]; · iexact ZB
  isplitl [ZS0]; · iexact ZS0
  isplitl [ZR0]; · iexact ZR0
  isplitl [ZS1]; · iexact ZS1
  isplitl [ZR1]; · iexact ZR1
  isplitl [ZS2]; · iexact ZS2
  isplitl [ZR2]; · iexact ZR2
  isplitl [ZS3]; · iexact ZS3
  isplitl [ZR3]; · iexact ZR3
  isplitl [ZS4]; · iexact ZS4
  isplitl [ZR4]; · iexact ZR4
  isplitl [ZS5]; · iexact ZS5
  isplitl [ZR5]; · iexact ZR5
  isplitl [ZS6]; · iexact ZS6
  isplitl [ZR6]; · iexact ZR6
  isplitl [ZS7]; · iexact ZS7
  isplitl [ZR7]; · iexact ZR7
  isplitl [ZS8]; · iexact ZS8
  isplitl [ZR8]; · iexact ZR8
  isplitl [G0]; · unfold anyPt; iexists _; iexact G0
  isplitl [G1]; · unfold anyPt; iexists _; iexact G1
  isplitl [H2]; · unfold anyPt; iexists _; iexact H2
  isplitl [H3]; · unfold anyPt; iexists _; iexact H3
  isplitl [H4]; · unfold anyPt; iexists _; iexact H4
  isplitl [E0]; · ihave Z := (Entails.of_eq (show pay m ρ c (some (false, 0)) 0 = anyPt c cc0_scratch5 from rfl)) $$ E0; iexact Z
  isplitl [E3]; · ihave Z := (Entails.of_eq (show pay m ρ c (some (false, 3)) 0 = anyPt c cc0_scratch6 from rfl)) $$ E3; iexact Z
  isplitl [E6]; · ihave Z := (Entails.of_eq (show pay m ρ c (some (false, 6)) 0 = anyPt c cc0_scratch7 from rfl)) $$ E6; iexact Z
  isplitl [E1]; · ihave Z := (Entails.of_eq (show pay m ρ c (some (false, 1)) 0 = anyPt c cc0_scratch8 from rfl)) $$ E1; iexact Z
  isplitl [E4]; · ihave Z := (Entails.of_eq (show pay m ρ c (some (false, 4)) 0 = anyPt c cc0_scratch9 from rfl)) $$ E4; iexact Z
  isplitl [E7]; · ihave Z := (Entails.of_eq (show pay m ρ c (some (false, 7)) 0 = anyPt c cc0_scratch10 from rfl)) $$ E7; iexact Z
  isplitl [E2]; · ihave Z := (Entails.of_eq (show pay m ρ c (some (false, 2)) 0 = anyPt c cc0_scratch11 from rfl)) $$ E2; iexact Z
  isplitl [E5]; · ihave Z := (Entails.of_eq (show pay m ρ c (some (false, 5)) 0 = anyPt c cc0_scratch12 from rfl)) $$ E5; iexact Z
  isplitl [E8]; · ihave Z := (Entails.of_eq (show pay m ρ c (some (false, 8)) 0 = anyPt c cc0_scratch13 from rfl)) $$ E8; iexact Z
  isplitl [B0]; · unfold anyPt; iexists _; iexact B0
  isplitl [B3]; · unfold anyPt; iexists _; iexact B3
  isplitl [B6]; · unfold anyPt; iexists _; iexact B6
  isplitl [B1]; · unfold anyPt; iexists _; iexact B1
  isplitl [B4]; · unfold anyPt; iexists _; iexact B4
  isplitl [B7]; · unfold anyPt; iexists _; iexact B7
  isplitl [B2]; · unfold anyPt; iexists _; iexact B2
  isplitl [B5]; · unfold anyPt; iexists _; iexact B5
  isplitl [B8]; · unfold anyPt; iexists _; iexact B8
  isplitl [X0]; · iexact X0
  isplitl [X1]; · iexact X1
  isplitl [X2]; · iexact X2
  isplitl [X3]; · iexact X3
  isplitl [X4]; · iexact X4
  rw [← eq_outAt m ρ c g2 hg2.1 hg2.2.1 hg2.2.2]
  iexact X5

end Cert.CubeProof
end
-- ==== Proof.Oblig.lean ====
/-
The run of the whole program: every device's body between what it starts from and what it leaves, the launch that deals
out the cells, duties and credits, and the final state, in which the result array of device `c` holds `outAt c`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Body
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from and leaves -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The device's means: to wait on its nineteen cells, to signal its three partners, to send its nine messages. -/
def ghost (K : Dev nD × Kd → ℕ) (c : Dev nD) : sProp 𝕄 :=
  iprop((bigSep Finset.univ fun k : Kd => waitTok m ρ K c k) ∗ (bigSep Finset.univ fun d : Fin 3 => sigTok m ρ K c d)
    ∗ (bigSep Finset.univ fun k : Fin 9 => sendTok m ρ K c k))

/-- The credits for what its partners owe it. -/
def credits (c : Dev nD) : sProp 𝕄 :=
  iprop(cred (tallyAt (barCell c) () 3) ∗ (bigSep Finset.univ fun k : Fin 9 => crdTok c true k))

def start (c : Dev nD) : sProp 𝕄 := iprop((∃ K, ghost m ρ K c) ∗ credits c ∗ levAts L lv)

/-- The kernel's scratch buffers, each at some contents. -/
def scr (c : Dev nD) : sProp 𝕄 := iprop(anyPt c cc0_scratch0 ∗ anyPt c cc0_scratch1 ∗ anyPt c cc0_scratch2 ∗ anyPt c cc0_scratch3 ∗ anyPt c cc0_scratch4 ∗ anyPt c cc0_scratch5 ∗ anyPt c cc0_scratch6 ∗ anyPt c cc0_scratch7 ∗ anyPt c cc0_scratch8 ∗ anyPt c cc0_scratch9 ∗ anyPt c cc0_scratch10 ∗ anyPt c cc0_scratch11 ∗ anyPt c cc0_scratch12 ∗ anyPt c cc0_scratch13 ∗ anyPt c cc0_scratch14 ∗ anyPt c cc0_scratch15 ∗ anyPt c cc0_scratch16 ∗ anyPt c cc0_scratch17 ∗ anyPt c cc0_scratch18 ∗ anyPt c cc0_scratch19 ∗ anyPt c cc0_scratch20 ∗ anyPt c cc0_scratch21 ∗ anyPt c cc0_scratch22)

def Φ₀ (c : Dev nD) : sProp 𝕄 := iprop(start m ρ c ∗ scr c)
/-- After the body: the scratch buffers and the cells' counters at zero. -/
def Φ₁ (c : Dev nD) : sProp 𝕄 :=
  iprop(semVal (barCell c) 0 ∗ (bigSep Finset.univ fun bk : Bool × Fin 9 => semVal (kcell (c, some bk)) 0) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => st0 m ρ c
    | ⟨1, _⟩ => st1 m ρ c
    | ⟨2, _⟩ => st2 m ρ c
    | ⟨3, _⟩ => st3 m ρ c
    | ⟨4, _⟩ => st4 m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Groups listed -/

theorem sep_kd (Φ : Kd → sProp (MT nD τ sig Unit (Elt F) ℕ UU ℕ)) :
    bigSep Finset.univ Φ = iprop(Φ none ∗ bigSep Finset.univ fun bk : Bool × Fin 9 => Φ (some bk)) := by
  rw [bigSep_univ_at Φ none, show (Finset.univ : Finset Kd).erase none = Finset.univ.map Function.Embedding.some from by decide, bigSep_map]
  rfl

theorem sep_bk (Φ : Bool × Fin 9 → sProp (MT nD τ sig Unit (Elt F) ℕ UU ℕ)) :
    bigSep Finset.univ Φ = iprop((bigSep Finset.univ fun k : Fin 9 => Φ (false, k)) ∗ bigSep Finset.univ fun k : Fin 9 => Φ (true, k)) := by
  rw [bigSep_univ_prod]
  exact bigSep_univ_eq_bigSepL [false, true] (by decide) (by decide) _

theorem sep_nine (Φ : Fin 9 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem sep_three (Φ : Fin 3 → sProp (MT nD τ sig Unit (Elt F) ℕ UU ℕ)) :
    bigSep Finset.univ Φ = iprop(Φ 0 ∗ Φ 1 ∗ Φ 2) := bigSep_univ_eq_bigSepL [0, 1, 2] (by decide) (by decide) Φ

theorem sep_win (Φ : Fin cfg0.W → sProp (MT nD τ sig Unit (Elt F) ℕ UU ℕ)) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's means one by one, from the groups. -/
theorem toks_intro (K : Dev nD × Kd → ℕ) (c : Dev nD) : iprop(ghost m ρ K c ∗ credits c) ⊢ toks m ρ K c := by
  unfold ghost credits toks
  rw [sep_kd, sep_bk, sep_nine, sep_nine, sep_nine, sep_nine, sep_three]
  iintro ⟨⟨⟨WB, ⟨WS0, WS1, WS2, WS3, WS4, WS5, WS6, WS7, WS8⟩, WR0, WR1, WR2, WR3, WR4, WR5, WR6, WR7, WR8⟩, ⟨T0, T1, T2⟩, S0, S1, S2, S3, S4, S5, S6, S7, S8⟩, CB, C0, C1, C2, C3, C4, C5, C6, C7, C8⟩
  isplitl [T0]; · iexact T0
  isplitl [T1]; · iexact T1
  isplitl [T2]; · iexact T2
  isplitl [WB]; · iexact WB
  isplitl [CB]; · iexact CB
  isplitl [S0]; · iexact S0
  isplitl [WS0]; · iexact WS0
  isplitl [WR0]; · iexact WR0
  isplitl [C0]; · iexact C0
  isplitl [S1]; · iexact S1
  isplitl [WS1]; · iexact WS1
  isplitl [WR1]; · iexact WR1
  isplitl [C1]; · iexact C1
  isplitl [S2]; · iexact S2
  isplitl [WS2]; · iexact WS2
  isplitl [WR2]; · iexact WR2
  isplitl [C2]; · iexact C2
  isplitl [S3]; · iexact S3
  isplitl [WS3]; · iexact WS3
  isplitl [WR3]; · iexact WR3
  isplitl [C3]; · iexact C3
  isplitl [S4]; · iexact S4
  isplitl [WS4]; · iexact WS4
  isplitl [WR4]; · iexact WR4
  isplitl [C4]; · iexact C4
  isplitl [S5]; · iexact S5
  isplitl [WS5]; · iexact WS5
  isplitl [WR5]; · iexact WR5
  isplitl [C5]; · iexact C5
  isplitl [S6]; · iexact S6
  isplitl [WS6]; · iexact WS6
  isplitl [WR6]; · iexact WR6
  isplitl [C6]; · iexact C6
  isplitl [S7]; · iexact S7
  isplitl [WS7]; · iexact WS7
  isplitl [WR7]; · iexact WR7
  isplitl [C7]; · iexact C7
  isplitl [S8]; · iexact S8
  isplitl [WS8]; · iexact WS8
  isplitl [WR8]; · iexact WR8
  iexact C8

/-- The buffers the body uses itself, and those it hands to its partners. -/
theorem bufs_intro (c : Dev nD) : (scr c : sProp 𝕄) ⊢ bufs c := by
  unfold scr bufs barPay
  simp only [flip_flip]
  iintro ⟨H0, H1, H2, H3, H4, H5, H6, H7, H8, H9, H10, H11, H12, H13, H14, H15, H16, H17, H18, H19, H20, H21, H22⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14 H21 H19]
  · isplitl [H14]; · iexact H14
    isplitl [H21]; · iexact H21
    iexact H19
  isplitl [H17 H15 H22]
  · isplitl [H17]; · iexact H17
    isplitl [H15]; · iexact H15
    iexact H22
  isplitl [H20]; · iexact H20
  isplitl [H18]; · iexact H18
  iexact H16

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ
    ∗ stg c cc0_stg0_0 (st0 m ρ c)
    ∗ stg c cc0_stg1_0 (st1 m ρ c)
    ∗ stg c cc0_stg2_0 (st2 m ρ c)
    ∗ stg c cc0_stg3_0 (st3 m ρ c)
    ∗ stg c cc0_stg4_0 (st4 m ρ c)
    ∗ stg c cc0_stg5_0 (outAt m ρ c))

set_option maxRecDepth 4000 in
theorem post_elim (c : Dev nD) : post m ρ c ⊢ bodyPost m ρ c := by
  unfold post bodyPost Φ₁ scr ow Dat.owesAt Pipeline.owesWithin
  rw [show (dats m ρ 0 c).owed t₀.succ = 0 from rfl, sep_bk, sep_nine, sep_nine]
  iintro ⟨⟨%W, HO⟩, ZB, ZS0, ZR0, ZS1, ZR1, ZS2, ZR2, ZS3, ZR3, ZS4, ZR4, ZS5, ZR5, ZS6, ZR6, ZS7, ZR7, ZS8, ZR8, H0, H1, H2, H3, H4, H5, H6, H7, H8, H9, H10, H11, H12, H13, H14, H15, H16, H17, H18, H19, H20, H21, H22, X0, X1, X2, X3, X4, X5⟩
  isplitl [ZB ZS0 ZS1 ZS2 ZS3 ZS4 ZS5 ZS6 ZS7 ZS8 ZR0 ZR1 ZR2 ZR3 ZR4 ZR5 ZR6 ZR7 ZR8 H0 H1 H2 H3 H4 H5 H6 H7 H8 H9 H10 H11 H12 H13 H14 H15 H16 H17 H18 H19 H20 H21 H22]
  · isplitl [ZB]; · iexact ZB
    isplitl [ZS0 ZS1 ZS2 ZS3 ZS4 ZS5 ZS6 ZS7 ZS8 ZR0 ZR1 ZR2 ZR3 ZR4 ZR5 ZR6 ZR7 ZR8]
    · isplitl [ZS0 ZS1 ZS2 ZS3 ZS4 ZS5 ZS6 ZS7 ZS8]
      · isplitl [ZS0]; · iexact ZS0
        isplitl [ZS1]; · iexact ZS1
        isplitl [ZS2]; · iexact ZS2
        isplitl [ZS3]; · iexact ZS3
        isplitl [ZS4]; · iexact ZS4
        isplitl [ZS5]; · iexact ZS5
        isplitl [ZS6]; · iexact ZS6
        isplitl [ZS7]; · iexact ZS7
        iexact ZS8
      isplitl [ZR0]; · iexact ZR0
      isplitl [ZR1]; · iexact ZR1
      isplitl [ZR2]; · iexact ZR2
      isplitl [ZR3]; · iexact ZR3
      isplitl [ZR4]; · iexact ZR4
      isplitl [ZR5]; · iexact ZR5
      isplitl [ZR6]; · iexact ZR6
      isplitl [ZR7]; · iexact ZR7
      iexact ZR8
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    iexact H22
  isplitl [HO]
  · iexists W
    isplitr; · ipureintro; exact fun _ _ => Or.inl trivial
    iexact HO
  isplitl [X0]
  · iexists _; isplitr; · (ipureintro; rfl)
    iexact X0
  isplitl [X1]
  · iexists _; isplitr; · (ipureintro; rfl)
    iexact X1
  isplitl [X2]
  · iexists _; isplitr; · (ipureintro; rfl)
    iexact X2
  isplitl [X3]
  · iexists _; isplitr; · (ipureintro; rfl)
    iexact X3
  isplitl [X4]
  · iexists _; isplitr; · (ipureintro; rfl)
    iexact X4
  iexists _; isplitr; · (ipureintro; rfl)
  iexact X5

set_option maxRecDepth 40000 in
/-- The body runs from what the device holds at the launch's one point to what it leaves. -/
theorem body_obligation (c : Dev nD) : BodyObligation (dats (F := F) m ρ 0 c) (defs₀ (F := F)) 𝒱₀ () Set.univ := fun t => by
  rw [fin_N t]
  rw [sep_win, sep_win]
  simp only [owns_whole_eq]
  show bodyPre m ρ c ⊢ wp frame (wpE (defs₀ (F := F)) 𝒱₀ c none) Set.univ (prog (F := F)) (fun _ => bodyPost m ρ c)
  unfold bodyPre Φ₀ start Dat.owesAt Pipeline.owesWithin
  iintro ⟨⟨⟨⟨%K, Hg⟩, Hc, Hl⟩, Hs⟩, ⟨%W, %hW, HO⟩, ⟨%d0, %g0, %hg0, X0⟩, ⟨%d1, %g1, %hg1, X1⟩, ⟨%d2, %g2, %hg2, X2⟩, ⟨%d3, %g3, %hg3, X3⟩, ⟨%d4, %g4, %hg4, X4⟩, ⟨%d5, %g5, %hg5, X5⟩⟩
  have e0 : g0 = st0 m ρ c := by rw [hg0]; unfold Dat.before; rw [if_pos (fetch0_0 t₀)]; rfl
  subst e0
  have e1 : g1 = st1 m ρ c := by rw [hg1]; unfold Dat.before; rw [if_pos (fetch0_1 t₀)]; rfl
  subst e1
  have e2 : g2 = st2 m ρ c := by rw [hg2]; unfold Dat.before; rw [if_pos (fetch0_2 t₀)]; rfl
  subst e2
  have e3 : g3 = st3 m ρ c := by rw [hg3]; unfold Dat.before; rw [if_pos (fetch0_3 t₀)]; rfl
  subst e3
  have e4 : g4 = st4 m ρ c := by rw [hg4]; unfold Dat.before; rw [if_pos (fetch0_4 t₀)]; rfl
  subst e4
  iapply (sound_body m ρ K c fun _ => bodyPost m ρ c)
  isplitl
  · unfold pre
    isplitl [Hg Hc]
    · iapply (toks_intro m ρ K c)
      isplitl [Hg]; · iexact Hg
      iexact Hc
    isplitl [Hs]; · iapply (bufs_intro c); iexact Hs
    isplitl [Hl]; · iexact Hl
    isplitl [HO]; · unfold ow; iexists W; iexact HO
    isplitl [X0]; · iexact X0
    isplitl [X1]; · iexact X1
    isplitl [X2]; · iexact X2
    isplitl [X3]; · iexact X3
    isplitl [X4]; · iexact X4
    unfold anyPt; iexists _; iexact X5
  · iintro H
    iapply (post_elim m ρ c); iexact H

end Cert.CubeProof
end
-- ==== Proof.Launch.lean ====
/-
The launch: the cells, duties and credits dealt out to the eight devices, and the run of the whole program. Its final
state has the result array of device `c` at `outAt c`, every argument unchanged and every counter at zero.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Oblig
public import Idealize.ShloMosaic.Lib.Pipeline.CollectiveSegs
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.CubeProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells and duty tokens -/

/-- The kernel's own semaphores: the send and receive semaphore of each message. -/
abbrev osem : Bool × Fin 9 → SemLoc sig := fun bk => csem (some bk)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Kd → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- Every cell gets three duty tokens; a message's cell uses only the first. -/
abbrev tokOf (x : (Dev nD × Kd) × Fin 3) : GSem nD τ sig × ℕ × Fin 3 := (kcell x.1, 0, x.2)
theorem tokOf_injective : Function.Injective (tokOf : (Dev nD × Kd) × Fin 3 → GSem nD τ sig × ℕ × Fin 3) := fun a b h =>
  Prod.ext (kcell_injective (congrArg Prod.fst h)) (congrArg (fun x : GSem nD τ sig × ℕ × Fin 3 => x.2.2) h)
def allToks : Finset (GSem nD τ sig × ℕ × Fin 3) := Finset.univ.map ⟨tokOf, tokOf_injective⟩

def u₀ : UU := (initOf (Pipeline.cells cfgs cellOf_inj) (Pipeline.launchToks cfgs cellOf_inj), initOf allCells allToks)

/-- The tokens of a device's own cells. -/
def ownToks (c : Dev nD) : sProp 𝕄 :=
  iprop((bigSep Finset.univ fun d : Fin 3 => dutyTok ER (barCell c) 0 d)
    ∗ (bigSep Finset.univ fun k : Fin 9 => dutyTok ER (sendCell c k) 0 0) ∗ (bigSep Finset.univ fun k : Fin 9 => dutyTok ER (recvCell c k) 0 0))

/-- The tokens of the duties a device itself pays. -/
def payToks (c : Dev nD) : sProp 𝕄 :=
  iprop((bigSep Finset.univ fun d : Fin 3 => dutyTok ER (barCell (flip d c)) 0 d)
    ∗ (bigSep Finset.univ fun k : Fin 9 => dutyTok ER (sendCell c k) 0 0)
    ∗ (bigSep Finset.univ fun k : Fin 9 => dutyTok ER (recvCell (flip (dm k) c) k) 0 0))

def G (c : Dev nD) : sProp 𝕄 :=
  iprop((bigSep Finset.univ fun k : Kd => roundState ER (rd m ρ) (kcell (c, k)) 0)
    ∗ (bigSep Finset.univ fun k : Kd => atPos ER (kcell (c, k)) 0 ∅ 0)
    ∗ (bigSep Finset.univ fun k : Kd => reached ER (kcell (c, k)) 0) ∗ ownToks c)

def G' (c : Dev nD) : sProp 𝕄 := iprop(∃ K, ghost m ρ K c)

theorem toks_own (c : Dev nD) :
    (bigSep Finset.univ fun k : Kd => bigSep Finset.univ fun d : Fin 3 => (dutyTok ER (kcell (c, k)) 0 d : sProp 𝕄)) ⊢ ownToks c := by
  rw [sep_kd, sep_bk]
  unfold ownToks
  exact sep_mono_right (BI.sep_mono (bigSep_mono fun k _ => bigSep_elim (Finset.mem_univ (0 : Fin 3))) (bigSep_mono fun k _ => bigSep_elim (Finset.mem_univ (0 : Fin 3))))

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun k : Kd => bigSep Finset.univ fun d : Fin 3 => dutyTok ER (kcell (c, k)) 0 d := by
    unfold allToks; rw [bigSep_map, bigSep_univ_prod, bigSep_univ_prod]; rfl
  iintro HX
  imod (Rounds.fund ER (rd m ρ) allCells allToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := ((Entails.of_eq hT).trans (bigSep_mono fun c _ => toks_own c)) $$ Htok
  unfold G; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = bigSep Finset.univ fun bk : Bool × Fin 9 => semVal (kcell (c, some bk)) 0 := rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Kd => iprop(∃ κ : ℕ, cellInv ER (rd m ρ) κ (kcell (c, k))))
          ∗ (bigSep Finset.univ fun k : Kd => atPos ER (kcell (c, k)) 0 ∅ 0)
          ∗ (bigSep Finset.univ fun k : Kd => reached ER (kcell (c, k)) 0) ∗ ownToks c) := by
  unfold G
  rw [ownSems0_eq, unscopedSems0_eq]
  iintro ⟨Hos, Hus, Hst, Hat, Hr, Htok⟩
  imod (show iprop((semVal (barCell c) 0 ∗ bigSep Finset.univ fun bk : Bool × Fin 9 => semVal (kcell (c, some bk)) 0)
        ∗ bigSep Finset.univ fun k : Kd => roundState ER (rd m ρ) (kcell (c, k)) 0)
      ⊢ (|={Set.univ}=> bigSep Finset.univ fun k : Kd => iprop(∃ κ : ℕ, cellInv ER (rd m ρ) κ (kcell (c, k))) : sProp 𝕄) from by
        rw [← sep_kd (fun k : Kd => semVal (kcell (c, k)) 0), ← bigSep_sep']
        exact (bigSep_mono fun k _ => (Rounds.body_intro ER (rd m ρ) (kcell (c, k))).trans inv_alloc).trans (bigSep_fupd _ _)) $$ [Hos Hus Hst] with Hinv
  · isplitl [Hos Hus]
    · isplitl [Hus] <;> iassumption
    iexact Hst
  imodintro
  isplitl [Hinv]; · iexact Hinv
  isplitl [Hat]; · iexact Hat
  isplitl [Hr] <;> iassumption

/-! ## The tokens across the cube -/

def records (K : Dev nD × Kd → ℕ) : sProp 𝕄 :=
  iprop((bigSep Finset.univ fun ck : Dev nD × Kd => cellInv ER (rd m ρ) (K ck) (kcell ck))
    ∗ bigSep Finset.univ fun ck : Dev nD × Kd => reached ER (kcell ck) 0)

instance records_persistent (K : Dev nD × Kd → ℕ) : BI.Persistent (records m ρ K) := by unfold records; infer_instance

theorem inv_at (K : Dev nD × Kd → ℕ) (ck : Dev nD × Kd) : (records m ρ K : sProp 𝕄) ⊢ cellInv ER (rd m ρ) (K ck) (kcell ck) := by
  unfold records; exact (Laws.sep_and.trans and_elimL).trans (bigSep_elim (Finset.mem_univ ck))
theorem reached_at (K : Dev nD × Kd → ℕ) (ck : Dev nD × Kd) : (records m ρ K : sProp 𝕄) ⊢ reached ER (kcell ck) 0 := by
  unfold records; exact (Laws.sep_and.trans and_elimR).trans (bigSep_elim (Finset.mem_univ ck))

/-- A fact that stays true may be used at every member of a group. -/
theorem sep_at_each {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem wait_intro (K : Dev nD × Kd → ℕ) (c : Dev nD) (k : Kd) :
    iprop(records m ρ K ∗ atPos ER (kcell (c, k)) 0 ∅ 0) ⊢ waitTok m ρ K c k := by
  unfold waitTok
  exact sep_mono_left (inv_at m ρ K (c, k))
theorem sig_intro (K : Dev nD × Kd → ℕ) (c : Dev nD) (d : Fin 3) :
    iprop(records m ρ K ∗ dutyTok ER (barCell (flip d c)) 0 d) ⊢ sigTok m ρ K c d := by
  unfold sigTok
  iintro ⟨#HR, HT⟩
  isplitr; · iapply (inv_at m ρ K (flip d c, none)); iexact HR
  isplitl [HT]; · iexact HT
  iapply (reached_at m ρ K (flip d c, none)); iexact HR
theorem send_intro (K : Dev nD × Kd → ℕ) (c : Dev nD) (k : Fin 9) :
    iprop(records m ρ K ∗ (dutyTok ER (sendCell c k) 0 0 ∗ dutyTok ER (recvCell (flip (dm k) c) k) 0 0)) ⊢ sendTok m ρ K c k := by
  unfold sendTok
  iintro ⟨#HR, HS, HT⟩
  isplitr; · iapply (inv_at m ρ K (c, some (false, k))); iexact HR
  isplitr; · iapply (inv_at m ρ K (flip (dm k) c, some (true, k))); iexact HR
  isplitl [HS]; · iexact HS
  isplitr; · iapply (reached_at m ρ K (c, some (false, k))); iexact HR
  isplitl [HT]; · iexact HT
  iapply (reached_at m ρ K (flip (dm k) c, some (true, k))); iexact HR

/-- What is dealt to device `c` besides the standing facts. -/
def dealt (c : Dev nD) : sProp 𝕄 := iprop((bigSep Finset.univ fun k : Kd => atPos ER (kcell (c, k)) 0 ∅ 0) ∗ payToks c)

theorem ghost_intro (K : Dev nD × Kd → ℕ) (c : Dev nD) : iprop(records m ρ K ∗ dealt c) ⊢ G' m ρ c := by
  unfold dealt payToks G' ghost
  rw [← bigSep_sep']
  iintro ⟨#HR, Hat, Hbar, Hmsg⟩
  iexists K
  isplitl [Hat]
  · iapply (sep_at_each (R := records m ρ K) fun k : Kd => wait_intro m ρ K c k)
    isplitr; · iexact HR
    iexact Hat
  isplitl [Hbar]
  · iapply (sep_at_each (R := records m ρ K) fun d : Fin 3 => sig_intro m ρ K c d)
    isplitr; · iexact HR
    iexact Hbar
  iapply (sep_at_each (R := records m ρ K) fun k : Fin 9 => send_intro m ρ K c k)
  isplitr; · iexact HR
  iexact Hmsg

/-- Flipping bit `d j` of the device, for every `j`: a reordering of the pairs. -/
def flips {J : Type} (d : J → Fin 3) : Dev nD × J ≃ Dev nD × J where
  toFun x := (flip (d x.2) x.1, x.2)
  invFun x := (flip (d x.2) x.1, x.2)
  left_inv x := Prod.ext (flip_flip _ _) rfl
  right_inv x := Prod.ext (flip_flip _ _) rfl

theorem sep_flips {J : Type} [Fintype J] [DecidableEq J] (d : J → Fin 3) (Φ : Dev nD → J → sProp (MT nD τ sig Unit (Elt F) ℕ UU ℕ)) :
    (bigSep Finset.univ fun c => bigSep Finset.univ fun j => Φ c j) = bigSep Finset.univ fun c => bigSep Finset.univ fun j => Φ (flip (d j) c) j := by
  rw [← bigSep_univ_prod (fun x : Dev nD × J => Φ x.1 x.2), bigSep_univ_equiv (flips d), bigSep_univ_prod]
  rfl

theorem toks_across : (bigSep Finset.univ fun c : Dev nD => (ownToks c : sProp 𝕄)) = bigSep Finset.univ fun c : Dev nD => payToks c := by
  unfold ownToks payToks
  rw [bigSep_sep', bigSep_sep', bigSep_sep', bigSep_sep',
    sep_flips (fun d => d) (fun c (d : Fin 3) => (dutyTok ER (barCell c) 0 d : sProp 𝕄)),
    sep_flips dm (fun c (k : Fin 9) => (dutyTok ER (recvCell c k) 0 0 : sProp 𝕄))]

theorem regroup :
    (bigSep Finset.univ fun c : Dev nD => iprop((bigSep Finset.univ fun k : Kd => iprop(∃ κ : ℕ, cellInv ER (rd m ρ) κ (kcell (c, k))))
          ∗ (bigSep Finset.univ fun k : Kd => atPos ER (kcell (c, k)) 0 ∅ 0)
          ∗ (bigSep Finset.univ fun k : Kd => reached ER (kcell (c, k)) 0) ∗ ownToks c) : sProp 𝕄)
      ⊢ bigSep Finset.univ (G' m ρ) := by
  rw [bigSep_sep', bigSep_sep', bigSep_sep', toks_across,
    ← bigSep_univ_prod (fun ck : Dev nD × Kd => iprop(∃ κ : ℕ, cellInv ER (rd m ρ) κ (kcell ck))),
    ← bigSep_univ_prod (fun ck : Dev nD × Kd => (reached ER (kcell ck) 0 : sProp 𝕄))]
  iintro ⟨HI, Hat, #HR, Htok⟩
  ihave HK := (BI.bigSep_exists_pi Finset.univ (fun (ck : Dev nD × Kd) (κ : ℕ) => (cellInv ER (rd m ρ) κ (kcell ck) : sProp 𝕄))) $$ HI
  icases HK with ⟨%K, #HI⟩
  iapply (sep_at_each (R := records m ρ K) fun c => ghost_intro m ρ K c)
  isplitr
  · unfold records; isplitl; · iexact HI
    iexact HR
  · unfold dealt
    rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem flip_eq_iff (d : Fin 3) (a b : Dev nD) : a = flip d b ↔ b = flip d a :=
  ⟨fun h => by rw [h, flip_flip], fun h => by rw [h, flip_flip]⟩

/-- One entry of what device `d` owes: to device `c`'s cell of kind `k'`, from a due of its partner's cell of kind `k`. -/
theorem tally_cell (c d : Dev nD) (e : Fin 3) (k k' : Kd) (n : ℕ) :
    tallyAt (kcell (flip e d, k)) () n (kcell (c, k')) () = if k = k' then (if d = flip e c then n else 0) else 0 := by
  rw [tallyAt_apply]
  by_cases hk : k = k'
  · subst hk
    rw [if_pos rfl]
    by_cases hd : d = flip e c
    · rw [if_pos hd, if_pos ⟨by rw [hd, flip_flip], rfl⟩]
    · rw [if_neg hd, if_neg fun h => hd ((flip_eq_iff e c d).mp (congrArg Prod.fst (kcell_injective h.1)))]
  · rw [if_neg hk, if_neg fun h => hk (congrArg Prod.snd (kcell_injective h.1)).symm]

theorem owedL_recv (c d : Dev nD) (k : Fin 9) : ∀ l : List (Fin 9),
    owedL d l (recvCell c k) () = l.count k * (if d = flip (dm k) c then crd k else 0)
  | [] => by rw [List.count_nil, Nat.zero_mul]; rfl
  | k' :: l => by
    show owedL d l (recvCell c k) () + tallyAt (kcell (flip (dm k') d, some (true, k'))) () (crd k') (kcell (c, some (true, k))) () = _
    rw [owedL_recv c d k l, tally_cell, List.count_cons]
    by_cases hk : k' = k
    · subst hk; rw [if_pos rfl, if_pos (beq_self_eq_true _), Nat.add_mul, Nat.one_mul]
    · rw [if_neg (show ¬ (some (true, k') : Kd) = some (true, k) from fun h => hk (congrArg Prod.snd (Option.some.inj h))),
        if_neg (show ¬ (k' == k) = true from fun h => hk (eq_of_beq h)), Nat.add_zero, Nat.add_zero]

theorem owedL_bar (c d : Dev nD) : ∀ l : List (Fin 9), owedL d l (barCell c) () = 0
  | [] => rfl
  | k' :: l => by
    show owedL d l (barCell c) () + tallyAt (kcell (flip (dm k') d, some (true, k'))) () (crd k') (kcell (c, none)) () = _
    rw [owedL_bar c d l, tally_cell, if_neg (fun h => by cases h)]

theorem owed_at (d : Dev nD) (g : GSem nD τ sig) : O₀ d g () = owedL d order9 g () + tallyAt (kcell (flip 2 d, none)) () 1 g ()
    + tallyAt (kcell (flip 1 d, none)) () 1 g () + tallyAt (kcell (flip 0 d, none)) () 1 g () := rfl

theorem owed_recv (c d : Dev nD) (k : Fin 9) : O₀ d (recvCell c k) () = if d = flip (dm k) c then crd k else 0 := by
  rw [owed_at, owedL_recv, show recvCell c k = kcell (c, some (true, k)) from rfl, tally_cell, tally_cell, tally_cell,
    if_neg (show ¬ (none : Kd) = some (true, k) from fun h => by cases h),
    if_neg (show ¬ (none : Kd) = some (true, k) from fun h => by cases h), if_neg (show ¬ (none : Kd) = some (true, k) from fun h => by cases h), show order9.count k = 1 from by revert k; decide, Nat.one_mul]; rfl

theorem owed_bar (c d : Dev nD) : O₀ d (barCell c) ()
    = (if d = flip 2 c then 1 else 0) + (if d = flip 1 c then 1 else 0) + (if d = flip 0 c then 1 else 0) := by
  rw [owed_at, owedL_bar, show barCell c = kcell (c, none) from rfl, tally_cell, tally_cell, tally_cell, if_pos rfl, if_pos rfl, if_pos rfl, Nat.zero_add]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar c d, Finset.sum_add_distrib, Finset.sum_add_distrib,
    Finset.sum_ite_eq' Finset.univ (flip 2 c) fun _ => 1, Finset.sum_ite_eq' Finset.univ (flip 1 c) fun _ => 1,
    Finset.sum_ite_eq' Finset.univ (flip 0 c) fun _ => 1, if_pos (Finset.mem_univ _), if_pos (Finset.mem_univ _), if_pos (Finset.mem_univ _)]

theorem launch_recv (c : Dev nD) (k : Fin 9) :
    tallyOn (recvCell c k) (launchCredit (Pipeline.owing O₀) 0 (recvCell c k)) = (tallyAt (recvCell c k) () (crd k) : CellTallies nD τ sig Unit) := by
  unfold tallyAt; refine congrArg _ (Finsupp.ext fun u => ?_); cases u
  rw [Pipeline.launchCredit_owing, Finsupp.single_eq_same, Finset.sum_congr rfl fun d _ => owed_recv c d k,
    Finset.sum_ite_eq' Finset.univ (flip (dm k) c) fun _ => crd k, if_pos (Finset.mem_univ _)]

theorem recv_injective : Function.Injective (fun k : Fin 9 => csem (some (true, k))) := fun a b h =>
  congrArg Prod.snd (Option.some.inj (csem_injective h))

theorem creds (c : Dev nD) : (Pipeline.launchCred O₀ c : sProp 𝕄) ⊢ credits c := by
  unfold Pipeline.launchCred credits
  rw [bigSep_univ_at _ (SemLoc.reg barS), launch_bar]
  refine sep_mono_right ?_
  refine (BI.bigSep_subset (t := Finset.univ.map ⟨fun k : Fin 9 => csem (some (true, k)), recv_injective⟩) ?_).trans ?_
  · intro s hs
    obtain ⟨k, -, rfl⟩ := Finset.mem_map.mp hs
    exact Finset.mem_erase.mpr ⟨fun h => Option.some_ne_none _ (csem_injective (show csem (some (true, k)) = csem none from h)), Finset.mem_univ _⟩
  · rw [bigSep_map]
    refine bigSep_mono fun k _ => ?_
    show cred _ ⊢ cred (tallyAt (recvCell c k) () (crd k))
    rw [← launch_recv]
    exact Entails.of_eq rfl

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem rest_eq (c : Dev nD) : (Pipeline.scopedRest cfg0.spec c : sProp 𝕄) = scr c := scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, rest_eq]
  unfold Φ₀
  iintro ⟨Hs, -, Hr⟩
  isplitl [Hs] <;> iassumption

set_option maxRecDepth 8000 in
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, rest_eq, ownSems0_eq, unscopedSems0_eq]
  unfold Φ₁
  exact Entails.of_eq rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh of eight devices, for any float values, from any memory with zero counters: every weakly fair execution
    of the program terminates, every array of every device ends at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_0 (c : Dev nD) : finalA m ρ c (0 : Fin 6) = (s₀ m ρ).mem (win0_0.arr.view.loc (c : Thread nD τ)) :=
  (dats (F := F) m ρ 0 c).arrAt_in (0 : Fin 6) rfl _
theorem finalA_1 (c : Dev nD) : finalA m ρ c (1 : Fin 6) = (s₀ m ρ).mem (win0_1.arr.view.loc (c : Thread nD τ)) :=
  (dats (F := F) m ρ 0 c).arrAt_in (1 : Fin 6) rfl _
theorem finalA_2 (c : Dev nD) : finalA m ρ c (2 : Fin 6) = (s₀ m ρ).mem (win0_2.arr.view.loc (c : Thread nD τ)) :=
  (dats (F := F) m ρ 0 c).arrAt_in (2 : Fin 6) rfl _
theorem finalA_3 (c : Dev nD) : finalA m ρ c (3 : Fin 6) = (s₀ m ρ).mem (win0_3.arr.view.loc (c : Thread nD τ)) :=
  (dats (F := F) m ρ 0 c).arrAt_in (3 : Fin 6) rfl _
theorem finalA_4 (c : Dev nD) : finalA m ρ c (4 : Fin 6) = (s₀ m ρ).mem (win0_4.arr.view.loc (c : Thread nD τ)) :=
  (dats (F := F) m ρ 0 c).arrAt_in (4 : Fin 6) rfl _

end Cert.CubeProof
end
-- ==== Proof.Final.lean ====
/-
The arrays at the end of the run, as plain functions of the arrays at the start: each staged block is a whole argument
array, and the result array of device `c` is `outAt c`.
-/
module

public import proofs.«01_k».proof.Proof.Launch
public import Idealize.ShloMosaic.Lib.Pipeline.Value

@[expose] public section

noncomputable section

namespace Cert.CubeProof

open Cert.KernelIdeal Cert.KernelIdeal.Gen

open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

theorem st0_eq (c : Dev nD) : st0 m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
theorem st1_eq (c : Dev nD) : st1 m ρ c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _
theorem st2_eq (c : Dev nD) : st2 m ρ c = m ((c : Thread nD τ).loc main_arg2) :=
  Memref.read_access_unit_zero (Elt F) main_arg2 (off := fun a => win0_2.index (0 : Fin 1) a * main_arg2.ty.shape.size a)
    (funext fun a => by fin_cases a <;> decide) (fun a => by fin_cases a <;> decide) _
theorem st3_eq (c : Dev nD) : st3 m ρ c = m ((c : Thread nD τ).loc main_arg3) :=
  Memref.read_access_unit_zero (Elt F) main_arg3 (off := fun a => win0_3.index (0 : Fin 1) a * main_arg3.ty.shape.size a)
    (funext fun a => by fin_cases a <;> decide) (fun a => by fin_cases a <;> decide) _
theorem st4_eq (c : Dev nD) : st4 m ρ c = m ((c : Thread nD τ).loc main_arg4) :=
  Memref.read_access_unit_zero (Elt F) main_arg4 (off := fun a => win0_4.index (0 : Fin 1) a * main_arg4.ty.shape.size a)
    (funext fun a => by fin_cases a <;> decide) (fun a => by fin_cases a <;> decide) _

theorem flushed_eq (c : Dev nD) (t : Fin cfg0.N) :
    (dats m ρ 0 c).flushed 5 t = ((cfg0.win 5).blk t).view.read (Elt F) (outAt m ρ c) := by
  obtain rfl := fin_N0 t
  have ha : (dats m ρ 0 c).after 5 t0_0 = outAt m ρ c := by dsimp only [dats]
  unfold Pipeline.Dat.flushed
  rw [ha]
  refine Eq.trans ?_ (Memref.read_access_unit_zero (Elt F) main_v1 (off := fun a => win0_5.index (0 : Fin 1) a * main_v1.ty.shape.size a)
    (funext fun a => by fin_cases a <;> decide) (fun a => by fin_cases a <;> decide) _).symm
  rfl

theorem cover (i : S256x1024.Idx) : ∃ t : Fin cfg0.N, (cfg0.win 5).flush t = true ∧ i ∈ ((cfg0.win 5).blk t).view.set := by
  refine ⟨t0_0, flush0_5 _, ?_⟩
  show i ∈ ((View.whole main_v1).slice (win0_5.rect t0_0)).set
  rw [View.set_slice_whole, Rect.mem_set_unit]
  intro a
  have h0 : (i 0 : Nat) < 256 := (i 0).isLt
  have h1 : (i 1 : Nat) < 1024 := (i 1).isLt
  have e : win0_5.index t0_0 0 * win0_5.size 0 = 0 ∧ win0_5.xsize (grid0.coords t0_0) 0 = 256
      ∧ win0_5.index t0_0 1 * win0_5.size 1 = 0 ∧ win0_5.xsize (grid0.coords t0_0) 1 = 1024 := by decide
  fin_cases a
  · exact ⟨e.1.trans_le (Nat.zero_le _), (show (i 0 : Nat) < win0_5.index t0_0 0 * win0_5.size 0 + win0_5.xsize (grid0.coords t0_0) 0 from by rw [e.1, e.2.1]; omega)⟩
  · exact ⟨e.2.2.1.trans_le (Nat.zero_le _), (show (i 1 : Nat) < win0_5.index t0_0 1 * win0_5.size 1 + win0_5.xsize (grid0.coords t0_0) 1 from by rw [e.2.2.1, e.2.2.2]; omega)⟩

theorem finalA_5 (c : Dev nD) : finalA m ρ c (5 : Fin 6) = outAt m ρ c :=
  (dats m ρ 0 c).arrAt_eq_of_cover 5 (outAt m ρ c) (fun t _ => flushed_eq m ρ c t) cover

/-- The whole run at a glance. -/
theorem run_arrays : θ_run defs (onTc (τ := τ) (main (F := F))) ⟨m, fun _ => 0, ρ⟩ (fun r => (∀ c : Dev nD,
    r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨(h.1 c (5 : Fin 6)).trans (finalA_5 m ρ c), (h.1 c (0 : Fin 6)).trans (finalA_0 m ρ c),
      (h.1 c (1 : Fin 6)).trans (finalA_1 m ρ c), (h.1 c (2 : Fin 6)).trans (finalA_2 m ρ c), (h.1 c (3 : Fin 6)).trans (finalA_3 m ρ c),
      (h.1 c (4 : Fin 6)).trans (finalA_4 m ρ c)⟩, h.2⟩) (run_main m ρ)

end Cert.CubeProof
end
-- ==== Proof.Probs.lean ====
/-
Facts of the extended reals that the value claim uses: a row's scores, once finite, give probabilities that are neither
negative nor infinite; such a factor moves out of a sum; and a sum of which all terms but one vanish is that term.
-/
module

public import Idealize.ShloMosaic.PureOps.Ideal.Laws
public import Idealize.ShloMosaic.Lib.IdealHost

@[expose] public section

noncomputable section

namespace Cert.CubeProof

open Idealize.ShloMosaic
open scoped BigOperators

/-- The largest of a row's scores. -/
def rowMax (s : Fin 64 → EReal) : EReal := (Finset.univ : Finset (Fin 64)).fold max ⊥ s

/-- A score's exponential, after the row's largest score is subtracted. -/
def rowExp (s : Fin 64 → EReal) (e : Fin 64) : EReal := Ideal.exp (s e - rowMax s)

/-- The probability of expert `e`. -/
def rowProb (s : Fin 64 → EReal) (e : Fin 64) : EReal := Ideal.div (rowExp s e) (∑ e', rowExp s e')

theorem rowMax_coe (s : Fin 64 → ℝ) : ∃ M : ℝ, rowMax (fun e => (s e : EReal)) = (M : EReal) := by
  have h1 : rowMax (fun e => (s e : EReal)) ≠ ⊤ := by
    intro h
    have hlt : rowMax (fun e => (s e : EReal)) < ⊤ := by
      unfold rowMax
      rw [Finset.fold_max_lt]
      exact ⟨bot_lt_top, fun e _ => EReal.coe_lt_top _⟩
    exact absurd h hlt.ne
  have h2 : rowMax (fun e => (s e : EReal)) ≠ ⊥ := by
    intro h
    have hle : ((s 0 : ℝ) : EReal) ≤ rowMax (fun e => (s e : EReal)) := by
      unfold rowMax
      rw [Finset.le_fold_max]
      exact Or.inr ⟨0, Finset.mem_univ _, le_rfl⟩
    rw [h] at hle
    exact absurd (le_bot_iff.1 hle) (EReal.coe_ne_bot _)
  exact ⟨_, (EReal.coe_toReal h1 h2).symm⟩

theorem coe_sum {ι : Type} (t : Finset ι) (f : ι → ℝ) : ∑ k ∈ t, (f k : EReal) = ((∑ k ∈ t, f k : ℝ) : EReal) := by
  classical
  induction t using Finset.induction_on with
  | empty => simp
  | insert a u ha ih => rw [Finset.sum_insert ha, Finset.sum_insert ha, ih, EReal.coe_add]

/-- With finite scores a probability is a real number that is not negative. -/
theorem rowProb_coe (s : Fin 64 → EReal) (h : ∀ e, s e ≠ ⊤ ∧ s e ≠ ⊥) (e : Fin 64) : ∃ p : ℝ, 0 ≤ p ∧ rowProb s e = (p : EReal) := by
  obtain ⟨r, rfl⟩ : ∃ r : Fin 64 → ℝ, s = fun e => (r e : EReal) :=
    ⟨fun e => (s e).toReal, funext fun e => (EReal.coe_toReal (h e).1 (h e).2).symm⟩
  obtain ⟨M, hM⟩ := rowMax_coe r
  have hx : ∀ e, rowExp (fun e => (r e : EReal)) e = (Real.exp (r e - M) : EReal) := fun e => by
    unfold rowExp
    rw [hM, ← EReal.coe_sub, Ideal.exp_coe]
  have hs : ∑ e', rowExp (fun e => (r e : EReal)) e' = ((∑ e', Real.exp (r e' - M) : ℝ) : EReal) := by
    rw [Finset.sum_congr rfl fun e _ => hx e, coe_sum]
  have hpos : 0 < ∑ e' : Fin 64, Real.exp (r e' - M) := Finset.sum_pos (fun e _ => Real.exp_pos _) ⟨0, Finset.mem_univ _⟩
  refine ⟨Real.exp (r e - M) * (1 / ∑ e' : Fin 64, Real.exp (r e' - M)), by positivity, ?_⟩
  unfold rowProb
  rw [hs, Ideal.div_coe hpos.ne', hx, EReal.coe_mul]

/-- A factor that is neither negative nor infinite moves out of a sum. -/
theorem mul_sum_of_coe {ι : Type} (t : Finset ι) {p : EReal} (h0 : 0 ≤ p) (ht : p ≠ ⊤) (f : ι → EReal) :
    p * ∑ k ∈ t, f k = ∑ k ∈ t, p * f k := by
  classical
  induction t using Finset.induction_on with
  | empty => simp
  | insert a u ha ih => rw [Finset.sum_insert ha, Finset.sum_insert ha, EReal.left_distrib_of_nonneg_of_ne_top h0 ht, ih]

/-- Rows weighted before a product with a matrix or the product weighted after it: the same. -/
theorem weighted_sum {ι : Type} [Fintype ι] {p : EReal} (h0 : 0 ≤ p) (ht : p ≠ ⊤) (x w : ι → EReal) :
    ∑ k, x k * p * w k = p * ∑ k, x k * w k := by
  rw [mul_sum_of_coe _ h0 ht]
  exact Finset.sum_congr rfl fun k _ => by rw [mul_comm (x k) p, mul_assoc]

end Cert.CubeProof
end
-- ==== Proof.RefValue.lean ====
/-
The reference's result read at a row and a column, when every index names an expert: the product with the shared matrix
plus the routed expert's probability times the product with the routed expert's matrix.
-/
module

public import proofs.«01_k».proof.Proof.Gen.ReferenceIdeal.Read
public import proofs.«01_k».proof.Proof.Probs
public import Idealize.ShloMosaic.Lib.KernelVsHost
public import Idealize.ShloMosaic.Lib.ReduceAll
public import Idealize.ShloMosaic.Lib.ValueIdxCore

@[expose] public section

noncomputable section

namespace Cert.CubeProof.Ref

open Cert.ReferenceIdeal Cert.ReferenceIdeal.Gen Cert.ReferenceIdeal.Read
open Idealize.ShloMosaic Idealize.ShloMosaic.ValueIdx
open scoped BigOperators

/-- Every index word names the expert `e` gives its row. -/
def Routes (x2 : S2048x1.Idx → BitVec 32) (e : Fin 2048 → Fin 64) : Prop :=
  ∀ r : Fin 2048, x2 (ix2 r 0) = BitVec.ofNat 32 (e r).val

theorem slt_zero (a : Fin 64) : IntOp.cmpi .slt (BitVec.ofNat 32 a.val) 0#32 = 0#1 := by revert a; decide
theorem sge_zero (a : Fin 64) : IntOp.cmpi .sge (BitVec.ofNat 32 a.val) 0#32 = 1#1 := by revert a; decide
theorem sle_last (a : Fin 64) : IntOp.cmpi .sle (BitVec.ofNat 32 a.val) 63#32 = 1#1 := by revert a; decide
theorem clamped (a : Fin 64) : min (BitVec.ofNat 32 a.val).toInt.toNat 63 = a.val := by revert a; decide

/-! ## The two gathers -/

/-- One element of each row, the one its index names. -/
theorem gather_rows {α : Type} (x : S2048x64.Idx → α) (idx : IVec S2048x1x1 32) (y : S2048x1.Idx) (a : Fin 64)
    (h : idx (ix3 (y 0) 0 0) = BitVec.ofNat 32 a.val) :
    Host.gather gather_S2048x64_S2048x1x1_S2048x1_n_1_0_0_1_2_11 x idx y = x (ix2 (y 0) a) := by
  unfold Host.gather
  congr 1
  funext d
  refine Fin.ext ?_
  show gather_S2048x64_S2048x1x1_S2048x1_n_1_0_0_1_2_11.start y idx d + gather_S2048x64_S2048x1x1_S2048x1_n_1_0_0_1_2_11.batchCoord y d
    + gather_S2048x64_S2048x1x1_S2048x1_n_1_0_0_1_2_11.offCoord y d = _
  have hd : d = 0 ∨ d = 1 := by
    match d with
    | ⟨0, _⟩ => exact Or.inl rfl
    | ⟨1, _⟩ => exact Or.inr rfl
  rcases hd with rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : gather_S2048x64_S2048x1x1_S2048x1_n_1_0_0_1_2_11.siIdx y ⟨List.idxOf (1 : Fin 2)
        gather_S2048x64_S2048x1x1_S2048x1_n_1_0_0_1_2_11.startIndexMap, List.idxOf_lt_length_iff.2 (by decide)⟩ = ix3 (y 0) 0 0 := by
      funext b; refine Fin.ext ?_
      match b with
      | ⟨0, _⟩ => rfl
      | ⟨1, _⟩ => have := (y 1).isLt; exact (show (y 1).val = 0 from Nat.lt_one_iff.1 this)
      | ⟨2, _⟩ => rfl
    refine (congrArg (fun i => min (idx i).toInt.toNat 63) hsi).trans ?_
    show min (idx (ix3 (y 0) 0 0)).toInt.toNat 63 = a.val
    rw [h]
    exact clamped a

/-- For each row the matrix its index names. -/
theorem gather_experts {α : Type} (x : S64x512x1024.Idx → α) (idx : IVec S2048x1 32) (y : S2048x512x1024.Idx) (a : Fin 64)
    (h : idx (ix2 (y 0) 0) = BitVec.ofNat 32 a.val) :
    Host.gather gather_S64x512x1024_S2048x1_S2048x512x1024_12_0_n_n_0_1_15121024 x idx y = x (ix3 a (y 1) (y 2)) := by
  unfold Host.gather
  congr 1
  funext d
  refine Fin.ext ?_
  show gather_S64x512x1024_S2048x1_S2048x512x1024_12_0_n_n_0_1_15121024.start y idx d
    + gather_S64x512x1024_S2048x1_S2048x512x1024_12_0_n_n_0_1_15121024.batchCoord y d
    + gather_S64x512x1024_S2048x1_S2048x512x1024_12_0_n_n_0_1_15121024.offCoord y d = _
  rw [GatherDims.batchCoord_eq_zero _ _ _ List.not_mem_nil]
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.offCoord_eq_zero _ _ _ (by decide)]
    simp only [Nat.add_zero]
    unfold GatherDims.start
    rw [dif_pos (by decide)]
    have hsi : gather_S64x512x1024_S2048x1_S2048x512x1024_12_0_n_n_0_1_15121024.siIdx y ⟨List.idxOf (0 : Fin 3)
        gather_S64x512x1024_S2048x1_S2048x512x1024_12_0_n_n_0_1_15121024.startIndexMap, List.idxOf_lt_length_iff.2 (by decide)⟩ = ix2 (y 0) 0 := by
      funext b; refine Fin.ext ?_
      match b with
      | ⟨0, _⟩ => rfl
      | ⟨1, _⟩ => rfl
    refine (congrArg (fun i => min (idx i).toInt.toNat 63) hsi).trans ?_
    show min (idx (ix2 (y 0) 0)).toInt.toNat 63 = a.val
    rw [h]
    exact clamped a
  · unfold GatherDims.start
    rw [dif_neg (by decide)]
    simp only [Nat.zero_add]
    unfold GatherDims.offCoord
    rw [dif_pos (by decide)]
    rfl
  · unfold GatherDims.start
    rw [dif_neg (by decide)]
    simp only [Nat.zero_add]
    unfold GatherDims.offCoord
    rw [dif_pos (by decide)]
    rfl

/-! ## The routed index -/

variable {F : FTy → Type} [FloatOps F]

theorem wrapped (x2 : S2048x1.Idx → BitVec 32) (e : Fin 2048 → Fin 64) (he : Routes x2 e) (i : S2048x1.Idx) :
    val_main_call0_v4 (F := F) x2 i = BitVec.ofNat 32 (e (i 0)).val := by
  have hi : i = ix2 (i 0) 0 := by
    funext a
    match a with
    | ⟨0, _⟩ => rfl
    | ⟨1, _⟩ => exact Subsingleton.elim (α := Fin 1) _ _
  have hx : x2 i = BitVec.ofNat 32 (e (i 0)).val := (congrArg x2 hi).trans (he (i 0))
  rw [val_main_call0_v4_apply, val_main_call0_v1_apply, val_main_call0_v0_apply, val_main_call0_c_apply, hx, slt_zero]
  rfl

theorem in_range (x2 : S2048x1.Idx → BitVec 32) (e : Fin 2048 → Fin 64) (he : Routes x2 e) (i : S2048x1.Idx) :
    val_main_call0_v12 (F := F) x2 i = 1#1 := by
  unfold val_main_call0_v12
  refine Host.reduce_andi_one _ _ _ _ _ rfl fun j => ?_
  rw [val_main_call0_v11_apply, val_main_call0_v7_apply, val_main_call0_v10_apply, val_main_call0_v5_apply, wrapped x2 e he,
    val_main_call0_v6_apply, val_main_call0_c_2_apply, val_main_call0_v9_apply, val_main_call0_v8_apply, val_main_call0_c_1_apply, sge_zero, sle_last]
  rfl

theorem taken (x0 : (⟨S2048x512, .f32⟩ : BufTy).Contents (Elt F)) (x1 : (⟨S512x64, .f32⟩ : BufTy).Contents (Elt F))
    (x2 : (⟨S2048x1, .i32⟩ : BufTy).Contents (Elt F)) (e : Fin 2048 → Fin 64) (he : Routes x2 e) (i : S2048x1.Idx) :
    val_main_v11 (F := F) x0 x1 x2 i = val_main_v9 (F := F) x0 x1 (ix2 (i 0) (e (i 0))) := by
  rw [val_main_v11_apply, in_range x2 e he]
  show val_main_call0_v13 (F := F) x0 x1 x2 i = _
  unfold val_main_call0_v13
  refine gather_rows _ _ _ _ ?_
  rw [val_main_call0_v5_apply, wrapped x2 e he]
  refine congrArg (fun r => BitVec.ofNat 32 (e r).val) (Fin.ext ?_)
  show (((i 0).val * 1 + 0) * 1 + 0) / 1 = (i 0).val
  omega

theorem expert (x2 : (⟨S2048x1, .i32⟩ : BufTy).Contents (Elt F)) (x3 : (⟨S64x512x1024, .f32⟩ : BufTy).Contents (Elt F))
    (e : Fin 2048 → Fin 64) (he : Routes x2 e) (i : S2048x512x1024.Idx) :
    val_main_v19 (F := F) x2 x3 i = x3 (ix3 (e (i 0)) (i 1) (i 2)) := by
  unfold val_main_v19
  refine gather_experts _ _ _ _ ?_
  have h12 : ∀ j : S2048.Idx, val_main_v12 (F := F) x2 j = BitVec.ofNat 32 (e (j 0)).val := fun j => by
    rw [val_main_v12_apply]
    refine Eq.trans (congrArg x2 ?_) (he (j 0))
    funext a
    match a with
    | ⟨0, _⟩ => exact Fin.ext (Nat.div_one _)
    | ⟨1, _⟩ => rfl
  rw [val_main_v18_apply, val_main_v17_apply, val_main_v14_apply, h12, val_main_v13_apply, val_main_c_apply, slt_zero]
  rfl

/-! ## The probabilities and the result -/

/-- A row's score for an expert. -/
def score (x0 : S2048x512.Idx → EReal) (x1 : S512x64.Idx → EReal) (r : Fin 2048) (a : Fin 64) : EReal :=
  ∑ k : Fin 512, x0 (ix2 r k) * x1 (ix2 k a)

theorem v0_eq (x0 : S2048x512.Idx → EReal) (x1 : S512x64.Idx → EReal) (r : Fin 2048) (a : Fin 64) :
    val_main_v0 (F := Ideal) x0 x1 (ix2 r a) = score x0 x1 r a := by
  rw [val_main_v0_apply]
  refine Finset.sum_congr rfl fun k _ => congrArg₂ (· * ·) (congrArg x0 ?_) (congrArg x1 ?_)
  · funext a; match a with | ⟨0, _⟩ => rfl | ⟨1, _⟩ => rfl
  · funext a; match a with | ⟨0, _⟩ => rfl | ⟨1, _⟩ => rfl

theorem ofBits_neg_inf : Ideal.ofBits .f32 0xFF800000#32 = ⊥ := by simp [Ideal.ofBits, Ideal.ieee]

theorem v1_eq (x0 : S2048x512.Idx → EReal) (x1 : S512x64.Idx → EReal) (i : S2048.Idx) :
    val_main_v1 (F := Ideal) x0 x1 i = rowMax (score x0 x1 (i 0)) := by
  unfold val_main_v1
  have hr : S2048x64.Reduces [1] S2048 := by decide
  refine (Host.reduce_eq_fold_single (FloatOps.maximumf (F := Ideal) (φ := .f32)) _ _ _ hr _ i).trans ?_
  unfold rowMax
  refine congrArg₂ (fun b f => Finset.fold max b f Finset.univ) ofBits_neg_inf (funext fun k => ?_)
  refine Eq.trans (congrArg (val_main_v0 (F := Ideal) x0 x1) ?_) (v0_eq x0 x1 (i 0) k)
  funext a; match a with | ⟨0, _⟩ => rfl | ⟨1, _⟩ => rfl

theorem v5_eq (x0 : S2048x512.Idx → EReal) (x1 : S512x64.Idx → EReal) (r : Fin 2048) (a : Fin 64) :
    val_main_v5 (F := Ideal) x0 x1 (ix2 r a) = rowExp (score x0 x1 r) a := by
  rw [val_main_v5_apply, val_main_v4_apply, v0_eq, val_main_v3_apply, val_main_v2_apply, v1_eq]
  rfl

theorem v6_eq (x0 : S2048x512.Idx → EReal) (x1 : S512x64.Idx → EReal) (i : S2048.Idx) :
    val_main_v6 (F := Ideal) x0 x1 i = ∑ a, rowExp (score x0 x1 (i 0)) a := by
  rw [val_main_v6_apply, val_main_cst_0_apply, Ideal.ofBits_def, Ideal.ofBits_zero_f32, zero_add]
  refine Finset.sum_congr rfl fun k _ => ?_
  refine Eq.trans (congrArg (val_main_v5 (F := Ideal) x0 x1) ?_) (v5_eq x0 x1 (i 0) k)
  funext a; match a with | ⟨0, _⟩ => rfl | ⟨1, _⟩ => rfl

theorem v9_eq (x0 : S2048x512.Idx → EReal) (x1 : S512x64.Idx → EReal) (r : Fin 2048) (a : Fin 64) :
    val_main_v9 (F := Ideal) x0 x1 (ix2 r a) = rowProb (score x0 x1 r) a := by
  rw [val_main_v9_apply, v5_eq, val_main_v8_apply, val_main_v7_apply, v6_eq]
  rfl

/-- The result, at row `r` and column `c`. -/
def result (x0 : S2048x512.Idx → EReal) (x1 : S512x64.Idx → EReal) (x3 : S64x512x1024.Idx → EReal) (x4 : S512x1024.Idx → EReal)
    (e : Fin 2048 → Fin 64) (r : Fin 2048) (c : Fin 1024) : EReal :=
  (∑ k : Fin 512, x0 (ix2 r k) * x4 (ix2 k c)) + rowProb (score x0 x1 r) (e r) * ∑ k : Fin 512, x0 (ix2 r k) * x3 (ix3 (e r) k c)

theorem reference_apply (x0 : S2048x512.Idx → EReal) (x1 : S512x64.Idx → EReal) (x2 : S2048x1.Idx → BitVec 32)
    (x3 : S64x512x1024.Idx → EReal) (x4 : S512x1024.Idx → EReal) (e : Fin 2048 → Fin 64) (he : Routes x2 e) (r : Fin 2048) (c : Fin 1024) :
    val_main_v23 (F := Ideal) x0 x1 x2 x3 x4 (ix2 r c) = result x0 x1 x3 x4 e r c := by
  rw [val_main_v23_apply, val_main_v10_apply, val_main_v22_apply, val_main_v21_apply, val_main_v20_apply]
  have hp : val_main_v11 (F := Ideal) x0 x1 x2 (idx_main_v21 (ix2 r c)) = rowProb (score x0 x1 r) (e r) :=
    (taken (F := Ideal) x0 x1 x2 e he _).trans (v9_eq x0 x1 r (e r))
  unfold result
  refine congrArg₂ (· + ·) ?_ (congrArg₂ (· * ·) hp ?_)
  · refine Finset.sum_congr rfl fun k _ => congrArg₂ (· * ·) (congrArg x0 ?_) (congrArg x4 ?_)
    · funext a; match a with | ⟨0, _⟩ => rfl | ⟨1, _⟩ => rfl
    · funext a; match a with | ⟨0, _⟩ => rfl | ⟨1, _⟩ => rfl
  · refine Finset.sum_congr rfl fun k _ => congrArg₂ (· * ·) (congrArg x0 ?_) ?_
    · funext a; match a with | ⟨0, _⟩ => rfl | ⟨1, _⟩ => rfl
    · exact expert (F := Ideal) x2 x3 e he _

end Cert.CubeProof.Ref
end
-- ==== Proof.Precond.lean ====
/-
What the precondition says of the arguments: every index word names an expert, and no router score is infinite.
-/
module

public import proofs.«01_k».proof.Defs
public import proofs.«01_k».proof.Proof.RefValue
public import proofs.«01_k».proof.Proof.Gen.ReferenceIdeal

@[expose] public section

noncomputable section

namespace Cert.CubeProof

open Idealize.ShloMosaic Idealize.ShloMosaic.ValueIdx

theorem facts_ker : Cert.Pre_routed_KernelIdeal.Facts where
  bcast_S_S2048x1 := by decide
  bcast_S_S2048x64 := by decide
  bcast_S2048x1_S2048x64_0_1 := by decide
  dot_S2048x512_S512x64_S2048x64_1_0_0_1_n_n_wf := by decide

theorem facts_ref : Cert.Pre_routed_ReferenceIdeal.Facts where
  bcast_S_S2048x1 := by decide
  bcast_S_S2048x64 := by decide
  bcast_S2048x1_S2048x64_0_1 := by decide
  dot_S2048x512_S512x64_S2048x64_1_0_0_1_n_n_wf := by decide

/-- A conjunction of one-bit words is one only if both are. -/
theorem bit_and (a b : BitVec 1) (h : a &&& b = 1#1) : a = 1#1 ∧ b = 1#1 := by revert a b; decide

theorem bit_true (b : Bool) (h : BitVec.ofBool b = 1#1) : b = true := by revert b; decide

/-- A word between zero and sixty-four, read as signed, is one of the sixty-four. -/
theorem word_named (w : BitVec 32) (h0 : IntOp.cmpi .sge w 0#32 = 1#1) (h1 : IntOp.cmpi .slt w 64#32 = 1#1) :
    ∃ a : Fin 64, w = BitVec.ofNat 32 a.val := by
  have h0' : (0#32).sle w = true := bit_true _ h0
  have h1' : w.slt 64#32 = true := bit_true _ h1
  rw [BitVec.sle_iff_toInt_le] at h0'
  rw [BitVec.slt_iff_toInt_lt] at h1'
  have e0 : (0#32).toInt = 0 := by decide
  have e1 : (64#32).toInt = 64 := by decide
  rw [e0] at h0'
  rw [e1] at h1'
  have hw := w.isLt
  have hn : w.toNat < 64 := by
    rw [BitVec.toInt_eq_toNat_cond] at h0' h1'
    split at h0' <;> omega
  exact ⟨⟨w.toNat, hn⟩, BitVec.eq_of_toNat_eq (by rw [BitVec.toNat_ofNat]; exact (Nat.mod_eq_of_lt hw).symm)⟩

theorem ofBits_inf : Ideal.ofBits .f32 0x7F800000#32 = ⊤ := by simp [Ideal.ofBits, Ideal.ieee]

/-- A number whose absolute value is below infinity is neither infinity. -/
theorem abs_lt_top (a : EReal) (h : max a (-a) < ⊤) : a ≠ ⊤ ∧ a ≠ ⊥ := by
  constructor
  · rintro rfl
    simp at h
  · rintro rfl
    simp at h

section
variable (X : Cert.Pre_routed_KernelIdeal.S2048x512.Idx → EReal) (R : Cert.Pre_routed_KernelIdeal.S512x64.Idx → EReal)
  (I : Cert.Pre_routed_KernelIdeal.S2048x1.Idx → BitVec 32) (W : Cert.Pre_routed_KernelIdeal.S8x512x1024.Idx → EReal)
  (S : Cert.Pre_routed_KernelIdeal.S512x1024.Idx → EReal)

/-- The precondition at a row and an expert. -/
theorem pre_at (hf : Cert.Pre_routed_KernelIdeal.Facts) (h : Cert.Pre_routed_KernelIdeal.fn (F := Ideal) X R I W S = fun _ => 1#1)
    (r : Fin 2048) (a : Fin 64) :
    (IntOp.cmpi .sge (I (ix2 r 0)) 0#32 = 1#1 ∧ IntOp.cmpi .slt (I (ix2 r 0)) 64#32 = 1#1)
      ∧ (Ref.score X R r a ≠ ⊤ ∧ Ref.score X R r a ≠ ⊥) := by
  have h1 := congrFun h (ix2 r a)
  obtain ⟨hl, hr⟩ := bit_and _ _ h1
  obtain ⟨ha, hb⟩ := bit_and _ _ hl
  have hI : ∀ i : Cert.Pre_routed_KernelIdeal.S2048x1.Idx, i = ix2 r 0 → I i = I (ix2 r 0) := fun i hi => congrArg I hi
  refine ⟨⟨Eq.trans (congrArg (fun i => IntOp.cmpi .sge (I i) 0#32) ?_) ha, Eq.trans (congrArg (fun i => IntOp.cmpi .slt (I i) 64#32) ?_) hb⟩, ?_⟩
  · funext d; match d with | ⟨0, _⟩ => rfl | ⟨1, _⟩ => rfl
  · funext d; match d with | ⟨0, _⟩ => rfl | ⟨1, _⟩ => rfl
  · have hv : Cert.ReferenceIdeal.Read.val_main_v0 (F := Ideal) X R (ix2 r a) = Ref.score X R r a := Ref.v0_eq X R r a
    have hc : Ideal.cmp .olt (max (Cert.ReferenceIdeal.Read.val_main_v0 (F := Ideal) X R (ix2 r a))
        (-(Cert.ReferenceIdeal.Read.val_main_v0 (F := Ideal) X R (ix2 r a)))) (Ideal.ofBits .f32 0x7F800000#32) = 1#1 := hr
    rw [hv, ofBits_inf] at hc
    refine abs_lt_top _ ?_
    by_contra hn
    simp [Ideal.cmp, hn] at hc

/-- Under the precondition every row has its expert, and every score is finite. -/
theorem pre_reads (hf : Cert.Pre_routed_KernelIdeal.Facts) (h : Cert.Pre_routed_KernelIdeal.fn (F := Ideal) X R I W S = fun _ => 1#1) :
    (∃ e : Fin 2048 → Fin 64, Ref.Routes I e) ∧ ∀ r a, Ref.score X R r a ≠ ⊤ ∧ Ref.score X R r a ≠ ⊥ := by
  refine ⟨?_, fun r a => (pre_at X R I W S hf h r a).2⟩
  have hw : ∀ r : Fin 2048, ∃ a : Fin 64, I (ix2 r 0) = BitVec.ofNat 32 a.val := fun r =>
    word_named _ (pre_at X R I W S hf h r 0).1.1 (pre_at X R I W S hf h r 0).1.2
  exact ⟨fun r => (hw r).choose, fun r => (hw r).choose_spec⟩
end

end Cert.CubeProof
end
-- ==== Proof.KerProb.lean ====
/-
The routed probability that the kernel computes for a row, over the reals: the reference's probability of the row's
expert.
-/
module

public import proofs.«01_k».proof.Proof.Values
public import proofs.«01_k».proof.Proof.RefValue
public import Idealize.ShloMosaic.Lib.MatmulPlain
public import Idealize.ShloMosaic.Lib.IdealHost

@[expose] public section

noncomputable section

namespace Cert.CubeProof

open Cert.KernelIdeal Cert.KernelIdeal.Gen
open Idealize.ShloMosaic Idealize.ShloMosaic.ValueIdx
open scoped BigOperators

/-- A plain product into a zero accumulator, at a row and a column. -/
theorem mm_apply {M K N : ℕ} {φ₁ φ₂ : FTy} (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) (r : Fin M) (c : Fin N) :
    matmul d none lhs rhs (constant ⟨2, ![M, N]⟩ .f32 0x00000000#32) (ix2 r c) = ∑ k : Fin K, lhs (ix2 r k) * rhs (ix2 k c) := by
  subst hd
  refine (Ideal.matmul_plain_apply none lhs rhs _ r c).trans ?_
  show Ideal.ofBits .f32 0x00000000#32 + _ = _
  rw [Ideal.ofBits_zero_f32, zero_add]

/-- A choice by equality of two words. -/
theorem select_eq {α : Type} {w : ℕ} (x y : BitVec w) (a b : α) : Scalar.select (IntOp.cmpi .eq x y) a b = if x = y then a else b := by
  unfold Scalar.select IntOp.cmpi
  by_cases h : x = y
  · subst h; simp
  · have hb : (x == y) = false := beq_eq_false_iff_ne.2 h
    rw [if_neg h]
    show (if BitVec.ofBool (x == y) = 1 then a else b) = b
    rw [hb]
    rfl

/-- Two small words are equal when the numbers are. -/
theorem word_eq {a b : ℕ} (ha : a < 64) (hb : b < 64) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-! ## The kernel's stages -/

/-- A value per row, repeated along the row. -/
def rowwise (v : FVec Ideal S2048 .f32) : FVec Ideal S2048x64 .f32 :=
  broadcastTo S2048x64 (shapeCast S2048x1 v shapeCasts_S2048_S2048x1) broadcasts_S2048x1_S2048x64

theorem column_apply {α : Type} (v : S2048.Idx → α) (r : Fin 2048) (z : Fin 1) : shapeCast S2048x1 v shapeCasts_S2048_S2048x1 (ix2 r z) = v (ix1 r) := by
  refine shapeCast_apply _ _ _ _ ?_
  rw [Shape.rowMajor_val_one, Shape.rowMajor_val_two]
  show r.val = r.val * 1 + z.val
  omega

theorem spread_apply {α : Type} (v : S2048x1.Idx → α) (r : Fin 2048) (a : Fin 64) :
    broadcastTo S2048x64 v broadcasts_S2048x1_S2048x64 (ix2 r a) = v (ix2 r 0) :=
  broadcastTo_apply _ _ _ _ fun d => by
    match d with
    | ⟨0, _⟩ => rfl
    | ⟨1, _⟩ => rfl

theorem rowwise_apply (v : FVec Ideal S2048 .f32) (r : Fin 2048) (a : Fin 64) : rowwise v (ix2 r a) = v (ix1 r) :=
  (spread_apply _ r a).trans (column_apply v r 0)

def kScores (x : Vec Ideal S2048x512 .f32) (w : Vec Ideal S512x64 .f32) : FVec Ideal S2048x64 .f32 :=
  matmul dot_S2048x512_S512x64_S2048x64_1_0_0_1_n_n none (shapeCast S2048x512 x shapeCasts_S2048x512_S2048x512 : FVec Ideal S2048x512 .f32)
    (shapeCast S512x64 w shapeCasts_S512x64_S512x64 : FVec Ideal S512x64 .f32) (constant S2048x64 .f32 0x00000000#32)

def kExps (s : FVec Ideal S2048x64 .f32) : FVec Ideal S2048x64 .f32 :=
  exp (subf s (rowwise (multiReduction .maximumf [1] S2048 s 0xFF800000#32 reduces_S2048x64_S2048 (.inl rfl) rfl)))

def kProbs (s : FVec Ideal S2048x64 .f32) : FVec Ideal S2048x64 .f32 :=
  divf (kExps s) (rowwise (multiReduction .add [1] S2048 (kExps s) 0x00000000#32 reduces_S2048x64_S2048 (.inl rfl) rfl))

def kMasked (s : FVec Ideal S2048x64 .f32) (idx : Vec Ideal S2048x1 .i32) : FVec Ideal S2048x64 .f32 :=
  select (cmpi .eq (iota .tc S2048x64 32 [1] iota_S2048x64_d1_w32 : IVec S2048x64 32)
      (broadcastTo S2048x64 (shapeCast S2048x1 idx shapeCasts_S2048x1_S2048x1 : IVec S2048x1 32) broadcasts_S2048x1_S2048x64 : IVec S2048x64 32))
    (kProbs s) (broadcast S2048x64 (Scalar.ofBits .f32 0x00000000#32))

theorem pay1_eq (x : Vec Ideal S2048x512 .f32) (w : Vec Ideal S512x64 .f32) (idx : Vec Ideal S2048x1 .i32) :
    k0_pay1 x w idx = shapeCast S2048x1 (shapeCast S2048x1 (multiReduction .add [1] S2048 (kMasked (kScores x w) idx) 0x00000000#32
      reduces_S2048x64_S2048 (.inl rfl) rfl) shapeCasts_S2048_S2048x1) shapeCasts_S2048x1_S2048x1 := rfl

theorem kScores_apply (x : Vec Ideal S2048x512 .f32) (w : Vec Ideal S512x64 .f32) (r : Fin 2048) (a : Fin 64) :
    kScores x w (ix2 r a) = Ref.score x w r a := by
  unfold kScores
  rw [shapeCast_self, shapeCast_self]
  exact mm_apply _ rfl _ _ r a

theorem kMax_apply (s : FVec Ideal S2048x64 .f32) (r : Fin 2048) :
    multiReduction .maximumf [1] S2048 s 0xFF800000#32 reduces_S2048x64_S2048 (.inl rfl) rfl (ix1 r) = rowMax fun a => s (ix2 r a) := by
  refine (Ideal.multiReduction_maximumf_single _ _ _ _ _ _).trans ?_
  unfold rowMax
  refine congrArg₂ (fun b f => Finset.fold max b f Finset.univ) Ref.ofBits_neg_inf (funext fun k => congrArg s ?_)
  funext d; match d with | ⟨0, _⟩ => rfl | ⟨1, _⟩ => rfl

theorem kSum_apply (s : FVec Ideal S2048x64 .f32) (r : Fin 2048) :
    multiReduction .add [1] S2048 s 0x00000000#32 reduces_S2048x64_S2048 (.inl rfl) rfl (ix1 r) = ∑ a : Fin 64, s (ix2 r a) := by
  refine (Ideal.multiReduction_add_single _ _ _ _ _ _).trans (Finset.sum_congr rfl fun k _ => congrArg s ?_)
  funext d; match d with | ⟨0, _⟩ => rfl | ⟨1, _⟩ => rfl

theorem kExps_apply (s : FVec Ideal S2048x64 .f32) (r : Fin 2048) (a : Fin 64) : kExps s (ix2 r a) = rowExp (fun b => s (ix2 r b)) a := by
  show Ideal.exp (s (ix2 r a) - rowwise _ (ix2 r a)) = _
  rw [rowwise_apply, kMax_apply]
  rfl

theorem kProbs_apply (s : FVec Ideal S2048x64 .f32) (r : Fin 2048) (a : Fin 64) : kProbs s (ix2 r a) = rowProb (fun b => s (ix2 r b)) a := by
  show Ideal.div (kExps s (ix2 r a)) (rowwise _ (ix2 r a)) = _
  rw [rowwise_apply, kSum_apply, kExps_apply]
  unfold rowProb
  exact congrArg _ (Finset.sum_congr rfl fun b _ => kExps_apply s r b)

/-- The kernel's routed probability. -/
theorem pay1_apply (x : Vec Ideal S2048x512 .f32) (w : Vec Ideal S512x64 .f32) (idx : Vec Ideal S2048x1 .i32) (e : Fin 2048 → Fin 64)
    (he : Ref.Routes idx e) (r : Fin 2048) : k0_pay1 x w idx (ix2 r 0) = rowProb (Ref.score x w r) (e r) := by
  rw [pay1_eq, shapeCast_self]
  refine (column_apply _ r 0).trans ((kSum_apply _ r).trans ?_)
  have hm : ∀ a : Fin 64, kMasked (kScores x w) idx (ix2 r a) = if a = e r then rowProb (Ref.score x w r) a else 0 := fun a => by
    unfold kMasked
    show Scalar.select (IntOp.cmpi .eq _ _) _ _ = _
    rw [select_eq, shapeCast_self, spread_apply, he r, iota_single_apply, kProbs_apply]
    have h0 : (broadcast S2048x64 (Scalar.ofBits (F := Ideal) .f32 0x00000000#32) : FVec Ideal S2048x64 .f32) (ix2 r a) = 0 := Ideal.ofBits_zero_f32
    rw [h0]
    have hw : (BitVec.ofNat 32 ((ix2 r a : S2048x64.Idx) 1).val = BitVec.ofNat 32 (e r).val) ↔ a = e r :=
      (word_eq a.isLt (e r).isLt).trans Fin.val_inj
    have hs : (fun b => kScores x w (ix2 r b)) = Ref.score x w r := funext fun b => kScores_apply x w r b
    rw [hs]
    exact if_congr hw rfl rfl
  rw [Finset.sum_congr rfl fun a _ => hm a, Finset.sum_ite_eq' Finset.univ (e r) (fun a => rowProb (Ref.score x w r) a), if_pos (Finset.mem_univ _)]

end Cert.CubeProof
end
-- ==== Proof.Exchange.lean ====
/-
The three exchanges along the cube add up, over the reals, to the sum over all devices of their partial products for
a device's own chunk of rows.
-/
module

public import proofs.«01_k».proof.Proof.Values
public import Idealize.ShloMosaic.PureOps.Ideal.Laws

@[expose] public section

noncomputable section

namespace Cert.CubeProof

open Cert.KernelIdeal Cert.KernelIdeal.Gen
open Idealize.ShloMosaic
open scoped BigOperators

variable (m : (ℓ : Loc nD τ sig) → Buf (Elt Ideal) ℓ) (ρ : Dev nD → PrngReg)

/-- A message slot gives back the partial sum it holds: over the reals nothing is rounded. -/
theorem unpack_pack384 (a : FVec Ideal S256x384 .f32) : unpack384 (pack384 a) = a := by
  unfold unpack384 pack384
  rw [shapeCast_shapeCast]
  rfl

/-- The same at the narrower section. -/
theorem unpack_pack256 (a : FVec Ideal S256x256 .f32) : unpack256 (pack256 a) = a := by
  unfold unpack256 pack256
  rw [shapeCast_shapeCast]
  rfl

/-! ## Section A -/

theorem m1A_read (c : Dev nD) (s : Fin 4) (i : S256x384.Idx) : unpack384 (m1A m ρ c s) i = partA m ρ c (q1 0 c s) i :=
  congrFun (unpack_pack384 _) i

theorem m2A_read (c : Dev nD) (v : Fin 2) (i : S256x384.Idx) :
    unpack384 (m2A m ρ c v) i = partA m ρ c (q2 0 c v) i + partA m ρ (flip 0 c) (q2 0 c v) i := by
  refine (congrFun (unpack_pack384 _) i).trans ?_
  show partA m ρ c (q2 0 c v) i + unpack384 (m1A m ρ (flip 0 c) (s12 0 c v)) i = _
  rw [m1A_read, show q1 0 (flip 0 c) (s12 0 c v) = q2 0 c v from q1_s12 0 c v]

theorem m3A_read (c : Dev nD) (i : S256x384.Idx) :
    unpack384 (m3A m ρ c 0) i = partA m ρ c (q3 0 c (s23 0 c)) i + partA m ρ (flip 0 c) (q3 0 c (s23 0 c)) i
      + (partA m ρ (flip 1 c) (q3 0 c (s23 0 c)) i + partA m ρ (flip 0 (flip 1 c)) (q3 0 c (s23 0 c)) i) := by
  refine (congrFun (unpack_pack384 _) i).trans ?_
  show partA m ρ c (q3 0 c (s23 0 c)) i + unpack384 (m1A m ρ (flip 0 c) (s13 0 c)) i + unpack384 (m2A m ρ (flip 1 c) (s23 0 c)) i = _
  rw [m1A_read, m2A_read, show q1 0 (flip 0 c) (s13 0 c) = q3 0 c (s23 0 c) from q1_s13 0 c,
    show q2 0 (flip 1 c) (s23 0 c) = q3 0 c (s23 0 c) from q2_s23 0 c]

theorem ownA_read (c : Dev nD) (i : S256x384.Idx) : ownA m ρ c i = ∑ d : Dev nD, partA m ρ d c i := by
  refine Eq.trans ?_ (sum_devices 0 c fun d => partA m ρ d c i).symm
  show partA m ρ c c i + unpack384 (m1A m ρ (flip 0 c) (s1o 0 c)) i + unpack384 (m2A m ρ (flip 1 c) (s2o 0 c)) i
    + unpack384 (m3A m ρ (flip 2 c) 0) i = _
  rw [m1A_read, m2A_read, m3A_read, show q1 0 (flip 0 c) (s1o 0 c) = c from q1_s1o 0 c,
    show q2 0 (flip 1 c) (s2o 0 c) = c from q2_s2o 0 c,
    show q3 0 (flip 2 c) (s23 0 (flip 2 c)) = c from q3_s3o 0 c]
  rfl

/-! ## Section B -/

theorem m1B_read (c : Dev nD) (s : Fin 4) (i : S256x384.Idx) : unpack384 (m1B m ρ c s) i = partB m ρ c (q1 1 c s) i :=
  congrFun (unpack_pack384 _) i

theorem m2B_read (c : Dev nD) (v : Fin 2) (i : S256x384.Idx) :
    unpack384 (m2B m ρ c v) i = partB m ρ c (q2 1 c v) i + partB m ρ (flip 1 c) (q2 1 c v) i := by
  refine (congrFun (unpack_pack384 _) i).trans ?_
  show partB m ρ c (q2 1 c v) i + unpack384 (m1B m ρ (flip 1 c) (s12 1 c v)) i = _
  rw [m1B_read, show q1 1 (flip 1 c) (s12 1 c v) = q2 1 c v from q1_s12 1 c v]

theorem m3B_read (c : Dev nD) (i : S256x384.Idx) :
    unpack384 (m3B m ρ c 0) i = partB m ρ c (q3 1 c (s23 1 c)) i + partB m ρ (flip 1 c) (q3 1 c (s23 1 c)) i
      + (partB m ρ (flip 2 c) (q3 1 c (s23 1 c)) i + partB m ρ (flip 1 (flip 2 c)) (q3 1 c (s23 1 c)) i) := by
  refine (congrFun (unpack_pack384 _) i).trans ?_
  show partB m ρ c (q3 1 c (s23 1 c)) i + unpack384 (m1B m ρ (flip 1 c) (s13 1 c)) i + unpack384 (m2B m ρ (flip 2 c) (s23 1 c)) i = _
  rw [m1B_read, m2B_read, show q1 1 (flip 1 c) (s13 1 c) = q3 1 c (s23 1 c) from q1_s13 1 c,
    show q2 1 (flip 2 c) (s23 1 c) = q3 1 c (s23 1 c) from q2_s23 1 c]

theorem ownB_read (c : Dev nD) (i : S256x384.Idx) : ownB m ρ c i = ∑ d : Dev nD, partB m ρ d c i := by
  refine Eq.trans ?_ (sum_devices 1 c fun d => partB m ρ d c i).symm
  show partB m ρ c c i + unpack384 (m1B m ρ (flip 1 c) (s1o 1 c)) i + unpack384 (m2B m ρ (flip 2 c) (s2o 1 c)) i
    + unpack384 (m3B m ρ (flip 0 c) 0) i = _
  rw [m1B_read, m2B_read, m3B_read, show q1 1 (flip 1 c) (s1o 1 c) = c from q1_s1o 1 c,
    show q2 1 (flip 2 c) (s2o 1 c) = c from q2_s2o 1 c,
    show q3 1 (flip 0 c) (s23 1 (flip 0 c)) = c from q3_s3o 1 c]
  rfl

/-! ## Section C -/

theorem m1C_read (c : Dev nD) (s : Fin 4) (i : S256x256.Idx) : unpack256 (m1C m ρ c s) i = partC m ρ c (q1 2 c s) i :=
  congrFun (unpack_pack256 _) i

theorem m2C_read (c : Dev nD) (v : Fin 2) (i : S256x256.Idx) :
    unpack256 (m2C m ρ c v) i = partC m ρ c (q2 2 c v) i + partC m ρ (flip 2 c) (q2 2 c v) i := by
  refine (congrFun (unpack_pack256 _) i).trans ?_
  show partC m ρ c (q2 2 c v) i + unpack256 (m1C m ρ (flip 2 c) (s12 2 c v)) i = _
  rw [m1C_read, show q1 2 (flip 2 c) (s12 2 c v) = q2 2 c v from q1_s12 2 c v]

theorem m3C_read (c : Dev nD) (i : S256x256.Idx) :
    unpack256 (m3C m ρ c 0) i = partC m ρ c (q3 2 c (s23 2 c)) i + partC m ρ (flip 2 c) (q3 2 c (s23 2 c)) i
      + (partC m ρ (flip 0 c) (q3 2 c (s23 2 c)) i + partC m ρ (flip 2 (flip 0 c)) (q3 2 c (s23 2 c)) i) := by
  refine (congrFun (unpack_pack256 _) i).trans ?_
  show partC m ρ c (q3 2 c (s23 2 c)) i + unpack256 (m1C m ρ (flip 2 c) (s13 2 c)) i + unpack256 (m2C m ρ (flip 0 c) (s23 2 c)) i = _
  rw [m1C_read, m2C_read, show q1 2 (flip 2 c) (s13 2 c) = q3 2 c (s23 2 c) from q1_s13 2 c,
    show q2 2 (flip 0 c) (s23 2 c) = q3 2 c (s23 2 c) from q2_s23 2 c]

theorem ownC_read (c : Dev nD) (i : S256x256.Idx) : ownC m ρ c i = ∑ d : Dev nD, partC m ρ d c i := by
  refine Eq.trans ?_ (sum_devices 2 c fun d => partC m ρ d c i).symm
  show partC m ρ c c i + unpack256 (m1C m ρ (flip 2 c) (s1o 2 c)) i + unpack256 (m2C m ρ (flip 0 c) (s2o 2 c)) i
    + unpack256 (m3C m ρ (flip 1 c) 0) i = _
  rw [m1C_read, m2C_read, m3C_read, show q1 2 (flip 2 c) (s1o 2 c) = c from q1_s1o 2 c,
    show q2 2 (flip 0 c) (s2o 2 c) = c from q2_s2o 2 c,
    show q3 2 (flip 1 c) (s23 2 (flip 1 c)) = c from q3_s3o 2 c]
  rfl

end Cert.CubeProof
end
-- ==== Proof.KerValue.lean ====
/-
A device's partial product at a row and a column, over the reals: the routed expert's term if the expert is one of the
device's eight, else zero. Summed over the devices, with the shared product added, it is the reference's result.
-/
module

public import proofs.«01_k».proof.Proof.Values
public import proofs.«01_k».proof.Proof.KerProb
public import proofs.«01_k».proof.Proof.Exchange
public import proofs.«01_k».proof.Proof.Final

@[expose] public section

noncomputable section

namespace Cert.CubeProof

open Cert.KernelIdeal Cert.KernelIdeal.Gen
open Idealize.ShloMosaic Idealize.ShloMosaic.ValueIdx
open Idealize.ShloMosaic.TcCoe
open scoped BigOperators

/-! ## Words -/

theorem pw_eq (c : Dev nD) : pw c = BitVec.ofNat 32 c.val := by revert c; decide +kernel

theorem expert_word (c : Dev nD) (j : Fin 8) :
    Scalar.addi (Scalar.muli (BitVec.ofNat 32 c.val) 8#32) (BitVec.ofNat 32 j.val) = BitVec.ofNat 32 (8 * c.val + j.val) := by
  revert c j; decide +kernel

/-- Every expert is one of one device's eight. -/
theorem sum_experts (a : Fin 64) (y : EReal) :
    ∑ d : Dev nD, ∑ j : Fin 8, (if a.val = 8 * d.val + j.val then y else 0) = y := by
  have ha := a.isLt
  rw [Finset.sum_eq_single (⟨a.val / 8, by show a.val / 8 < 8; omega⟩ : Dev nD), Finset.sum_eq_single (⟨a.val % 8, by omega⟩ : Fin 8)]
  · rw [if_pos]
    show a.val = 8 * (a.val / 8) + a.val % 8
    omega
  · intro j _ hj
    rw [if_neg]
    intro h
    have h' : a.val = 8 * (a.val / 8) + j.val := h
    exact hj (Fin.ext (by show j.val = a.val % 8; omega))
  · intro h; exact absurd (Finset.mem_univ _) h
  · intro d _ hd
    refine Finset.sum_eq_zero fun j _ => ?_
    rw [if_neg]
    intro h
    have hj := j.isLt
    exact hd (Fin.ext (by show d.val = a.val / 8; omega))
  · intro h; exact absurd (Finset.mem_univ _) h

theorem spread512_apply {α : Type} (v : S256x1.Idx → α) (r : Fin 256) (k : Fin 512) :
    broadcastTo S256x512 v broadcasts_S256x1_S256x512 (ix2 r k) = v (ix2 r 0) :=
  broadcastTo_apply _ _ _ _ fun d => by
    match d with
    | ⟨0, _⟩ => rfl
    | ⟨1, _⟩ => rfl

/-- A row weighted by its probability. -/
theorem scaled_apply (xc : Vec Ideal S256x512 .f32) (pc : Vec Ideal S256x1 .f32) (r : Fin 256) (k : Fin 512) :
    scaled xc pc (ix2 r k) = xc (ix2 r k) * pc (ix2 r 0) := by
  unfold scaled
  rw [shapeCast_self]
  show xc (ix2 r k) * broadcastTo S256x512 pc broadcasts_S256x1_S256x512 (ix2 r k) = _
  rw [spread512_apply]

/-- Row `r` of chunk `q`. -/
def rowAt (q : Fin 8) (r : Fin 256) : Fin 2048 := ⟨256 * q.val + r.val, by have := q.isLt; have := r.isLt; omega⟩

theorem rowsOf_apply {α : Type} {w : ℕ} (f : (⟨2, ![2048, w]⟩ : Shape).Idx → α) (q : Fin 8) (r : Fin 256) (k : Fin w) :
    rowsOf f q (ix2 r k) = f (ix2 (rowAt q r) k) := by
  refine congrArg f (funext fun a => Fin.ext ?_)
  match a with
  | ⟨0, _⟩ => show 256 * q.val + 1 * r.val = 256 * q.val + r.val; omega
  | ⟨1, _⟩ => show 0 + 1 * k.val = k.val; omega

/-! ## A device's partial product -/

theorem drop384 {α : Type} (v : S1x512x384.Idx → α) (k : Fin 512) (n : Fin 384) :
    shapeCast S512x384 v shapeCasts_S1x512x384_S512x384 (ix2 k n) = v (ix3 0 k n) := by
  refine shapeCast_apply _ _ _ _ ?_
  rw [Shape.rowMajor_val_three, Shape.rowMajor_val_two]
  show (0 * 512 + k.val) * 384 + n.val = k.val * 384 + n.val
  omega

theorem wcols384_apply (f : (cc0_scratch1 : Ref sig .tc).ty.Contents (Elt Ideal)) (o : ℕ) (h : o + 384 ≤ 1024) (j : Fin 8) (k : Fin 512) (n : Fin 384) :
    wcols384 f o h j (ix3 0 k n) = f (ix3 j k ⟨o + n.val, by have := n.isLt; omega⟩ : S8x512x1024.Idx) := by
  refine congrArg f (funext fun a => Fin.ext ?_)
  match a with
  | ⟨0, _⟩ => show j.val + 1 * 0 = j.val; omega
  | ⟨1, _⟩ => show 0 + 1 * k.val = k.val; omega
  | ⟨2, _⟩ => show o + 1 * n.val = o + n.val; omega

theorem term384_apply (v2 : BitVec 32) (idc : Vec Ideal S256x1 .i32) (xp : FVec Ideal S256x512 .bf16) (j : BitVec 32)
    (w : Vec Ideal S1x512x384 .bf16) (r : Fin 256) (n : Fin 384) :
    term384 v2 idc xp j w (ix2 r n)
      = if idc (ix2 r 0) = Scalar.addi (Scalar.muli v2 8#32) j then ∑ k : Fin 512, xp (ix2 r k) * w (ix3 0 k n) else 0 := by
  unfold term384
  refine (mm_apply _ rfl _ _ r n).trans ?_
  have hk : ∀ k : Fin 512, (select (broadcastTo S256x512 (shapeCast S256x1 (cmpi .eq (shapeCast S256x1 idc shapeCasts_S256x1_S256x1 : IVec S256x1 32)
        (broadcast S256x1 (Scalar.addi (Scalar.muli v2 8#32) j))) shapeCasts_S256x1_S256x1) broadcasts_S256x1_S256x512)
      xp (broadcast S256x512 (Scalar.ofBits .bf16 0x0000#16)) : FVec Ideal S256x512 .bf16) (ix2 r k)
      = if idc (ix2 r 0) = Scalar.addi (Scalar.muli v2 8#32) j then xp (ix2 r k) else 0 := fun k => by
    show Scalar.select (broadcastTo S256x512 _ broadcasts_S256x1_S256x512 (ix2 r k)) _ _ = _
    rw [spread512_apply, shapeCast_self, shapeCast_self]
    refine (select_eq _ _ _ _).trans (if_congr Iff.rfl rfl ?_)
    exact Ideal.ofBits_zero_bf16
  rw [Finset.sum_congr rfl fun k _ => congrArg₂ (· * ·) (hk k) (drop384 w k n)]
  by_cases h : idc (ix2 r 0) = Scalar.addi (Scalar.muli v2 8#32) j
  · simp only [if_pos h]
  · simp only [if_neg h, zero_mul, Finset.sum_const_zero]

/-- The eight terms, as one sum. -/
theorem part384_apply (v2 : BitVec 32) (xc : Vec Ideal S256x512 .f32) (idc : Vec Ideal S256x1 .i32) (pc : Vec Ideal S256x1 .f32)
    (w : Fin 8 → Vec Ideal S1x512x384 .bf16) (r : Fin 256) (n : Fin 384) :
    part384 v2 xc idc pc w (ix2 r n) = ∑ j : Fin 8, if idc (ix2 r 0) = Scalar.addi (Scalar.muli v2 8#32) (BitVec.ofNat 32 j.val)
      then ∑ k : Fin 512, scaled xc pc (ix2 r k) * w j (ix3 0 k n) else 0 := by
  refine Eq.trans ?_ (Finset.sum_congr rfl fun j _ => term384_apply v2 idc (scaled xc pc) (BitVec.ofNat 32 j.val) (w j) r n)
  rw [Fin.sum_univ_eight]
  rfl

theorem drop256 {α : Type} (v : S1x512x256.Idx → α) (k : Fin 512) (n : Fin 256) :
    shapeCast S512x256 v shapeCasts_S1x512x256_S512x256 (ix2 k n) = v (ix3 0 k n) := by
  refine shapeCast_apply _ _ _ _ ?_
  rw [Shape.rowMajor_val_three, Shape.rowMajor_val_two]
  show (0 * 512 + k.val) * 256 + n.val = k.val * 256 + n.val
  omega

theorem wcols256_apply (f : (cc0_scratch1 : Ref sig .tc).ty.Contents (Elt Ideal)) (o : ℕ) (h : o + 256 ≤ 1024) (j : Fin 8) (k : Fin 512) (n : Fin 256) :
    wcols256 f o h j (ix3 0 k n) = f (ix3 j k ⟨o + n.val, by have := n.isLt; omega⟩ : S8x512x1024.Idx) := by
  refine congrArg f (funext fun a => Fin.ext ?_)
  match a with
  | ⟨0, _⟩ => show j.val + 1 * 0 = j.val; omega
  | ⟨1, _⟩ => show 0 + 1 * k.val = k.val; omega
  | ⟨2, _⟩ => show o + 1 * n.val = o + n.val; omega

theorem term256_apply (v2 : BitVec 32) (idc : Vec Ideal S256x1 .i32) (xp : FVec Ideal S256x512 .bf16) (j : BitVec 32)
    (w : Vec Ideal S1x512x256 .bf16) (r : Fin 256) (n : Fin 256) :
    term256 v2 idc xp j w (ix2 r n)
      = if idc (ix2 r 0) = Scalar.addi (Scalar.muli v2 8#32) j then ∑ k : Fin 512, xp (ix2 r k) * w (ix3 0 k n) else 0 := by
  unfold term256
  refine (mm_apply _ rfl _ _ r n).trans ?_
  have hk : ∀ k : Fin 512, (select (broadcastTo S256x512 (shapeCast S256x1 (cmpi .eq (shapeCast S256x1 idc shapeCasts_S256x1_S256x1 : IVec S256x1 32)
        (broadcast S256x1 (Scalar.addi (Scalar.muli v2 8#32) j))) shapeCasts_S256x1_S256x1) broadcasts_S256x1_S256x512)
      xp (broadcast S256x512 (Scalar.ofBits .bf16 0x0000#16)) : FVec Ideal S256x512 .bf16) (ix2 r k)
      = if idc (ix2 r 0) = Scalar.addi (Scalar.muli v2 8#32) j then xp (ix2 r k) else 0 := fun k => by
    show Scalar.select (broadcastTo S256x512 _ broadcasts_S256x1_S256x512 (ix2 r k)) _ _ = _
    rw [spread512_apply, shapeCast_self, shapeCast_self]
    refine (select_eq _ _ _ _).trans (if_congr Iff.rfl rfl ?_)
    exact Ideal.ofBits_zero_bf16
  rw [Finset.sum_congr rfl fun k _ => congrArg₂ (· * ·) (hk k) (drop256 w k n)]
  by_cases h : idc (ix2 r 0) = Scalar.addi (Scalar.muli v2 8#32) j
  · simp only [if_pos h]
  · simp only [if_neg h, zero_mul, Finset.sum_const_zero]

/-- The eight terms, as one sum. -/
theorem part256_apply (v2 : BitVec 32) (xc : Vec Ideal S256x512 .f32) (idc : Vec Ideal S256x1 .i32) (pc : Vec Ideal S256x1 .f32)
    (w : Fin 8 → Vec Ideal S1x512x256 .bf16) (r : Fin 256) (n : Fin 256) :
    part256 v2 xc idc pc w (ix2 r n) = ∑ j : Fin 8, if idc (ix2 r 0) = Scalar.addi (Scalar.muli v2 8#32) (BitVec.ofNat 32 j.val)
      then ∑ k : Fin 512, scaled xc pc (ix2 r k) * w j (ix3 0 k n) else 0 := by
  refine Eq.trans ?_ (Finset.sum_congr rfl fun j _ => term256_apply v2 idc (scaled xc pc) (BitVec.ofNat 32 j.val) (w j) r n)
  rw [Fin.sum_univ_eight]
  rfl

/-! ## The result -/

section Result

variable (m : (ℓ : Loc nD τ sig) → Buf (Elt Ideal) ℓ)
variable (X : S2048x512.Idx → EReal) (R : S512x64.Idx → EReal) (I : S2048x1.Idx → BitVec 32)
  (W : (⟨3, ![64, 512, 1024]⟩ : Shape).Idx → EReal) (S : S512x1024.Idx → EReal) (e : Fin 2048 → Fin 64)

/-- What the devices hold: the tokens, the router's matrix, the routes and the shared matrix, the same on every device,
    and of the experts each device its eight. -/
structure Inputs : Prop where
  x : ∀ c : Dev nD, m ((c : Thread nD τ).loc main_arg0) = X
  r : ∀ c : Dev nD, m ((c : Thread nD τ).loc main_arg1) = R
  i : ∀ c : Dev nD, m ((c : Thread nD τ).loc main_arg2) = I
  w : ∀ c : Dev nD, ∀ (j : Fin 8) (k : Fin 512) (n : Fin 1024), (m ((c : Thread nD τ).loc main_arg3) : S8x512x1024.Idx → EReal) (ix3 j k n)
    = W (ix3 ⟨8 * c.val + j.val, by have : c.val < 8 := c.isLt; have := j.isLt; omega⟩ k n)
  s : ∀ c : Dev nD, m ((c : Thread nD τ).loc main_arg4) = S
  routes : Ref.Routes I e
  finite : ∀ r a, Ref.score X R r a ≠ ⊤ ∧ Ref.score X R r a ≠ ⊥

variable {m X R I W S e}
variable (ρ : Dev nD → PrngReg)

/-- The routed expert's term. -/
def routed (X : S2048x512.Idx → EReal) (R : S512x64.Idx → EReal) (W : (⟨3, ![64, 512, 1024]⟩ : Shape).Idx → EReal) (e : Fin 2048 → Fin 64)
    (r : Fin 2048) (n : Fin 1024) : EReal :=
  rowProb (Ref.score X R r) (e r) * ∑ k : Fin 512, X (ix2 r k) * W (ix3 (e r) k n)

theorem ew_apply (H : Inputs m X R I W S e) (c : Dev nD) (j : Fin 8) (k : Fin 512) (n : Fin 1024) :
    (ew m ρ c : S8x512x1024.Idx → EReal) (ix3 j k n) = W (ix3 ⟨8 * c.val + j.val, by have : c.val < 8 := c.isLt; have := j.isLt; omega⟩ k n) := by
  refine Eq.trans ?_ (H.w c j k n)
  have h : (ew m ρ c : S8x512x1024.Idx → EReal) = st3 m ρ c := by
    unfold ew k0_pay2
    simp only [shapeCast_self]
    rfl
  rw [h, st3_eq]

theorem ptok_apply (H : Inputs m X R I W S e) (c : Dev nD) (r : Fin 2048) :
    (ptok m ρ c : S2048x1.Idx → EReal) (ix2 r 0) = rowProb (Ref.score X R r) (e r) := by
  unfold ptok
  rw [st0_eq, st1_eq, st2_eq, H.x, H.r, H.i]
  exact pay1_apply X R I e H.routes r

/-- Rows weighted first, then multiplied: the weight comes out of the sum. -/
theorem weight_out (H : Inputs m X R I W S e) (r : Fin 2048) (w : Fin 512 → EReal) :
    ∑ k : Fin 512, X (ix2 r k) * rowProb (Ref.score X R r) (e r) * w k = rowProb (Ref.score X R r) (e r) * ∑ k : Fin 512, X (ix2 r k) * w k := by
  obtain ⟨p, h0, hp⟩ := rowProb_coe (Ref.score X R r) (H.finite r) (e r)
  rw [hp]
  exact weighted_sum (EReal.coe_nonneg.2 h0) (EReal.coe_ne_top _) _ _

theorem partA_apply (H : Inputs m X R I W S e) (d : Dev nD) (q : Fin 8) (r : Fin 256) (n : Fin 384) :
    partA m ρ d q (ix2 r n) = ∑ j : Fin 8, if (e (rowAt q r)).val = 8 * d.val + j.val
      then routed X R W e (rowAt q r) ⟨0 + n.val, by have := n.isLt; omega⟩ else 0 := by
  unfold partA
  rw [part384_apply]
  refine Finset.sum_congr rfl fun j _ => ?_
  have hd : d.val < 8 := d.isLt
  have hj := j.isLt
  have hi : (rowsOf (st2 m ρ d) q : S256x1.Idx → BitVec 32) (ix2 r 0) = BitVec.ofNat 32 (e (rowAt q r)).val := by
    rw [rowsOf_apply, st2_eq, H.i]
    exact H.routes _
  rw [hi, pw_eq, expert_word]
  by_cases h : (e (rowAt q r)).val = 8 * d.val + j.val
  · rw [if_pos h, if_pos (congrArg _ h)]
    unfold routed
    rw [← weight_out H]
    refine Finset.sum_congr rfl fun k _ => ?_
    rw [scaled_apply, rowsOf_apply, rowsOf_apply, ptok_apply ρ H, wcols384_apply, ew_apply ρ H, st0_eq, H.x]
    refine congrArg (_ * W ·) ?_
    exact congrArg (fun a : Fin 64 => (ix3 a k _ : (⟨3, ![64, 512, 1024]⟩ : Shape).Idx)) (Fin.ext h.symm)
  · rw [if_neg h, if_neg (fun h' => h ((word_eq (e (rowAt q r)).isLt (by omega)).1 h'))]

theorem ownA_apply (H : Inputs m X R I W S e) (c : Dev nD) (r : Fin 256) (n : Fin 384) :
    ownA m ρ c (ix2 r n) = routed X R W e (rowAt c r) ⟨0 + n.val, by have := n.isLt; omega⟩ := by
  rw [ownA_read, Finset.sum_congr rfl fun d _ => partA_apply ρ H d c r n]
  exact sum_experts _ _

theorem partB_apply (H : Inputs m X R I W S e) (d : Dev nD) (q : Fin 8) (r : Fin 256) (n : Fin 384) :
    partB m ρ d q (ix2 r n) = ∑ j : Fin 8, if (e (rowAt q r)).val = 8 * d.val + j.val
      then routed X R W e (rowAt q r) ⟨384 + n.val, by have := n.isLt; omega⟩ else 0 := by
  unfold partB
  rw [part384_apply]
  refine Finset.sum_congr rfl fun j _ => ?_
  have hd : d.val < 8 := d.isLt
  have hj := j.isLt
  have hi : (rowsOf (st2 m ρ d) q : S256x1.Idx → BitVec 32) (ix2 r 0) = BitVec.ofNat 32 (e (rowAt q r)).val := by
    rw [rowsOf_apply, st2_eq, H.i]
    exact H.routes _
  rw [hi, pw_eq, expert_word]
  by_cases h : (e (rowAt q r)).val = 8 * d.val + j.val
  · rw [if_pos h, if_pos (congrArg _ h)]
    unfold routed
    rw [← weight_out H]
    refine Finset.sum_congr rfl fun k _ => ?_
    rw [scaled_apply, rowsOf_apply, rowsOf_apply, ptok_apply ρ H, wcols384_apply, ew_apply ρ H, st0_eq, H.x]
    refine congrArg (_ * W ·) ?_
    exact congrArg (fun a : Fin 64 => (ix3 a k _ : (⟨3, ![64, 512, 1024]⟩ : Shape).Idx)) (Fin.ext h.symm)
  · rw [if_neg h, if_neg (fun h' => h ((word_eq (e (rowAt q r)).isLt (by omega)).1 h'))]

theorem ownB_apply (H : Inputs m X R I W S e) (c : Dev nD) (r : Fin 256) (n : Fin 384) :
    ownB m ρ c (ix2 r n) = routed X R W e (rowAt c r) ⟨384 + n.val, by have := n.isLt; omega⟩ := by
  rw [ownB_read, Finset.sum_congr rfl fun d _ => partB_apply ρ H d c r n]
  exact sum_experts _ _

theorem partC_apply (H : Inputs m X R I W S e) (d : Dev nD) (q : Fin 8) (r : Fin 256) (n : Fin 256) :
    partC m ρ d q (ix2 r n) = ∑ j : Fin 8, if (e (rowAt q r)).val = 8 * d.val + j.val
      then routed X R W e (rowAt q r) ⟨768 + n.val, by have := n.isLt; omega⟩ else 0 := by
  unfold partC
  rw [part256_apply]
  refine Finset.sum_congr rfl fun j _ => ?_
  have hd : d.val < 8 := d.isLt
  have hj := j.isLt
  have hi : (rowsOf (st2 m ρ d) q : S256x1.Idx → BitVec 32) (ix2 r 0) = BitVec.ofNat 32 (e (rowAt q r)).val := by
    rw [rowsOf_apply, st2_eq, H.i]
    exact H.routes _
  rw [hi, pw_eq, expert_word]
  by_cases h : (e (rowAt q r)).val = 8 * d.val + j.val
  · rw [if_pos h, if_pos (congrArg _ h)]
    unfold routed
    rw [← weight_out H]
    refine Finset.sum_congr rfl fun k _ => ?_
    rw [scaled_apply, rowsOf_apply, rowsOf_apply, ptok_apply ρ H, wcols256_apply, ew_apply ρ H, st0_eq, H.x]
    refine congrArg (_ * W ·) ?_
    exact congrArg (fun a : Fin 64 => (ix3 a k _ : (⟨3, ![64, 512, 1024]⟩ : Shape).Idx)) (Fin.ext h.symm)
  · rw [if_neg h, if_neg (fun h' => h ((word_eq (e (rowAt q r)).isLt (by omega)).1 h'))]

theorem ownC_apply (H : Inputs m X R I W S e) (c : Dev nD) (r : Fin 256) (n : Fin 256) :
    ownC m ρ c (ix2 r n) = routed X R W e (rowAt c r) ⟨768 + n.val, by have := n.isLt; omega⟩ := by
  rw [ownC_read, Finset.sum_congr rfl fun d _ => partC_apply ρ H d c r n]
  exact sum_experts _ _

theorem shared_apply (H : Inputs m X R I W S e) (c : Dev nD) (r : Fin 256) (n : Fin 1024) :
    shared m ρ c (ix2 r n) = ∑ k : Fin 512, X (ix2 (rowAt c r) k) * S (ix2 k n) := by
  unfold shared k0_pay199
  simp only [shapeCast_self]
  refine (mm_apply _ rfl _ _ r n).trans (Finset.sum_congr rfl fun k _ => ?_)
  rw [rowsOf_apply, st0_eq, st4_eq, H.x, H.s]

theorem resA_apply (H : Inputs m X R I W S e) (c : Dev nD) (r : Fin 256) (n : Fin 384) (n' : Fin 1024) (hn : n'.val = 0 + n.val) :
    resA m ρ c (ix2 r n) = Ref.result X R W S e (rowAt c r) n' := by
  have hn' : n' = ⟨0 + n.val, by have := n.isLt; omega⟩ := Fin.ext hn
  rw [hn']
  show ownA m ρ c (ix2 r n) + extractStridedSlice S256x384 ![0, 0] (shared m ρ c) slices_S256x1024_o0_0_S256x384 (ix2 r n) = _
  rw [ownA_apply ρ H, extractStridedSlice_apply _ _ _ _ (ix2 r ⟨0 + n.val, by have := n.isLt; omega⟩) (fun a => by
      match a with
      | ⟨0, _⟩ => show r.val = 0 + r.val; omega
      | ⟨1, _⟩ => rfl), shared_apply ρ H, add_comm]
  rfl

theorem resB_apply (H : Inputs m X R I W S e) (c : Dev nD) (r : Fin 256) (n : Fin 384) (n' : Fin 1024) (hn : n'.val = 384 + n.val) :
    resB m ρ c (ix2 r n) = Ref.result X R W S e (rowAt c r) n' := by
  have hn' : n' = ⟨384 + n.val, by have := n.isLt; omega⟩ := Fin.ext hn
  rw [hn']
  show ownB m ρ c (ix2 r n) + extractStridedSlice S256x384 ![0, 384] (shared m ρ c) slices_S256x1024_o0_384_S256x384 (ix2 r n) = _
  rw [ownB_apply ρ H, extractStridedSlice_apply _ _ _ _ (ix2 r ⟨384 + n.val, by have := n.isLt; omega⟩) (fun a => by
      match a with
      | ⟨0, _⟩ => show r.val = 0 + r.val; omega
      | ⟨1, _⟩ => rfl), shared_apply ρ H, add_comm]
  rfl

theorem resC_apply (H : Inputs m X R I W S e) (c : Dev nD) (r : Fin 256) (n : Fin 256) (n' : Fin 1024) (hn : n'.val = 768 + n.val) :
    resC m ρ c (ix2 r n) = Ref.result X R W S e (rowAt c r) n' := by
  have hn' : n' = ⟨768 + n.val, by have := n.isLt; omega⟩ := Fin.ext hn
  rw [hn']
  show ownC m ρ c (ix2 r n) + extractStridedSlice S256x256 ![0, 768] (shared m ρ c) slices_S256x1024_o0_768_S256x256 (ix2 r n) = _
  rw [ownC_apply ρ H, extractStridedSlice_apply _ _ _ _ (ix2 r ⟨768 + n.val, by have := n.isLt; omega⟩) (fun a => by
      match a with
      | ⟨0, _⟩ => show r.val = 0 + r.val; omega
      | ⟨1, _⟩ => rfl), shared_apply ρ H, add_comm]
  rfl

/-- The kernel's result on device `c`, at a row and a column. -/
theorem outAt_apply (H : Inputs m X R I W S e) (c : Dev nD) (r : Fin 256) (n : Fin 1024) :
    (outAt m ρ c : S256x1024.Idx → EReal) (ix2 r n) = Ref.result X R W S e (rowAt c r) n := by
  have hn := n.isLt
  unfold outAt
  by_cases h : n.val < 384
  · refine (dif_pos h).trans ?_
    refine Eq.trans (congrArg (resA m ρ c) ?_) (resA_apply ρ H c r ⟨n.val, h⟩ n (by show n.val = 0 + n.val; omega))
    funext a; match a with | ⟨0, _⟩ => rfl | ⟨1, _⟩ => rfl
  · refine (dif_neg h).trans ?_
    by_cases h' : n.val < 768
    · refine (dif_pos h').trans ?_
      refine Eq.trans (congrArg (resB m ρ c) ?_) (resB_apply ρ H c r ⟨n.val - 384, by omega⟩ n (by show n.val = 384 + (n.val - 384); omega))
      funext a; match a with | ⟨0, _⟩ => rfl | ⟨1, _⟩ => rfl
    · refine (dif_neg h').trans ?_
      refine Eq.trans (congrArg (resC m ρ c) ?_) (resC_apply ρ H c r ⟨n.val - 768, by omega⟩ n (by show n.val = 768 + (n.val - 768); omega))
      funext a; match a with | ⟨0, _⟩ => rfl | ⟨1, _⟩ => rfl

end Result

end Cert.CubeProof
end
-- ==== Proof.Agree.lean ====
/-
The kernel's result on a device is the device's block of the reference's result, when the arguments agree.
-/
module

public import proofs.«01_k».proof.Defs
public import proofs.«01_k».proof.Proof.Precond
public import proofs.«01_k».proof.Proof.KerValue
public import proofs.«01_k».proof.Proof.Gen.ReferenceIdeal.Run

@[expose] public section

noncomputable section

namespace Cert.CubeProof

open Cert.KernelIdeal Cert.KernelIdeal.Gen
open Idealize.ShloMosaic Idealize.ShloMosaic.ValueIdx Idealize.SL.Sem
open Idealize.ShloMosaic.TcCoe

variable (m : (ℓ : Loc nD τ sig) → Buf (Elt Ideal) ℓ) (ρ : Dev nD → PrngReg)
variable (X : S2048x512.Idx → EReal) (R : S512x64.Idx → EReal) (I : S2048x1.Idx → BitVec 32)
  (W : (⟨3, ![64, 512, 1024]⟩ : Shape).Idx → EReal) (S : S512x1024.Idx → EReal)

/-- The device's experts, read in the whole array. -/
theorem block_experts (c : Dev nD) (j : Fin 8) (k : Fin 512) (n : Fin 1024) :
    (Layout.block ⟨3, ![8, 512, 1024]⟩ ⟨3, ![64, 512, 1024]⟩ 0 8 c W) (ix3 j k n)
      = W (ix3 ⟨8 * c.val + j.val, by have : c.val < 8 := c.isLt; have := j.isLt; omega⟩ k n) := by
  rw [Layout.block_apply]
  refine congrArg W ?_
  funext a
  match a with
  | ⟨0, _⟩ => exact Fin.ext (by show c.val * 8 + j.val = 8 * c.val + j.val; omega)
  | ⟨1, _⟩ => rfl
  | ⟨2, _⟩ => rfl

/-- The device's rows of the whole result. -/
theorem block_rows (V : (⟨2, ![2048, 1024]⟩ : Shape).Idx → EReal) (c : Dev nD) (r : Fin 256) (n : Fin 1024) :
    (Layout.block ⟨2, ![256, 1024]⟩ ⟨2, ![2048, 1024]⟩ 0 8 c V) (ix2 r n) = V (ix2 (rowAt c r) n) := by
  rw [Layout.block_apply]
  refine congrArg V ?_
  funext a
  match a with
  | ⟨0, _⟩ => exact Fin.ext (by show c.val * 256 + r.val = 256 * c.val + r.val; omega)
  | ⟨1, _⟩ => rfl

/-- The kernel's result on every device is its block of the reference's. -/
theorem out_block (hf : Cert.Pre_routed_KernelIdeal.Facts) (hp : Cert.Pre_KernelIdeal_routed_KernelIdeal m)
    (hx : ∀ c : Dev nD, m ((c : Thread nD τ).loc main_arg0) = X) (hr : ∀ c : Dev nD, m ((c : Thread nD τ).loc main_arg1) = R)
    (hi : ∀ c : Dev nD, m ((c : Thread nD τ).loc main_arg2) = I)
    (hw : ∀ c : Dev nD, m ((c : Thread nD τ).loc main_arg3) = Layout.block ⟨3, ![8, 512, 1024]⟩ ⟨3, ![64, 512, 1024]⟩ 0 8 c W)
    (hs : ∀ c : Dev nD, m ((c : Thread nD τ).loc main_arg4) = S) (c : Dev nD) :
    outAt m ρ c = Layout.block ⟨2, ![256, 1024]⟩ ⟨2, ![2048, 1024]⟩ 0 8 c
      (Cert.ReferenceIdeal.Read.val_main_v23 (F := Ideal) X R I W S) := by
  have h0 : Cert.Pre_routed_KernelIdeal.fn (F := Ideal) X R I
      (m (((0 : Dev nD) : Thread nD τ).loc main_arg3)) S = fun _ => 1#1 := by
    have h := hp 0
    rw [show m (((0 : Dev nD).tc : Thread nD τ).loc main_arg0) = X from hx 0, show m (((0 : Dev nD).tc : Thread nD τ).loc main_arg1) = R from hr 0,
      show m (((0 : Dev nD).tc : Thread nD τ).loc main_arg2) = I from hi 0, show m (((0 : Dev nD).tc : Thread nD τ).loc main_arg4) = S from hs 0] at h
    exact h
  obtain ⟨⟨e, he⟩, hfin⟩ := pre_reads X R I _ S hf h0
  have H : Inputs m X R I W S e := ⟨hx, hr, hi, fun c j k n => (congrFun (hw c) (ix3 j k n)).trans (block_experts W c j k n), hs, he, hfin⟩
  funext i
  obtain ⟨r, n, rfl⟩ : ∃ (r : Fin 256) (n : Fin 1024), i = ix2 r n := ⟨i 0, i 1, by
    funext a; match a with | ⟨0, _⟩ => rfl | ⟨1, _⟩ => rfl⟩
  refine (outAt_apply ρ H c r n).trans (Eq.trans ?_ (block_rows _ c r n).symm)
  exact (Ref.reference_apply X R I W S e he (rowAt c r) n).symm

end Cert.CubeProof
end
-- ==== Proof.lean ====
/-
The claims: the kernel, its reading over the reals and the reference run to their end, leave their arguments unchanged
and every counter at zero; and over the reals the kernel's devices end with their rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Final
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-! The two programs have one text.  The run was written for `KernelIdeal`, over any float values. -/

set_option maxRecDepth 100000 in
theorem defs₀_eq : (Cert.Kernel.defs₀ (F := Bits)) = (Cert.KernelIdeal.defs₀ (F := Bits)) := by
  unfold Cert.Kernel.defs₀ Cert.KernelIdeal.defs₀
  refine congrArg Defs.onTc ?_
  funext l a
  match l, a with
  | 0, (t, s) => rfl

theorem defs_eq : (Cert.Kernel.defs (F := Bits)) = (Cert.KernelIdeal.defs (F := Bits)) :=
  congrArg (Pipeline.defs Cert.KernelIdeal.pcfgs) defs₀_eq

theorem frame_kernel : Cert.quiescent_Kernel := fun m ρ _ => by
  rw [defs_eq]
  exact (θ_run Cert.KernelIdeal.defs _ _).mono (fun _ h => ⟨fun c => (h.1 c).2, h.2⟩) (Cert.CubeProof.run_arrays (F := Bits) m ρ)

theorem frame_ideal : Cert.quiescent_KernelIdeal := fun m ρ _ =>
  (θ_run Cert.KernelIdeal.defs _ _).mono (fun _ h => ⟨fun c => (h.1 c).2, h.2⟩) (Cert.CubeProof.run_arrays (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! The frames that also name the precondition do not use it. -/

theorem frame_ideal_pre (hf : Cert.Pre_routed_KernelIdeal.Facts) : Cert.quiescent_KernelIdeal_pre_routed_KernelIdeal := fun m ρ _ =>
  frame_ideal m ρ trivial

theorem frame_reference_pre (hf : Cert.Pre_routed_ReferenceIdeal.Facts) : Cert.quiescent_ReferenceIdeal_pre_routed_ReferenceIdeal := fun m ρ _ =>
  frame_reference m ρ trivial

/-- Under the precondition every device ends with its rows of the reference's result. -/
theorem value (hf : Cert.Pre_routed_KernelIdeal.Facts) : Cert.algebraic_KernelIdeal_ReferenceIdeal_pre_routed_KernelIdeal := by
  intro m g m' g' hp hag
  refine ⟨Cert.ReferenceIdeal.Read.val_main_v23 (F := Ideal)
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4)), ?_, ?_⟩
  rotate_left
  · exact (θ_run Cert.ReferenceIdeal.defs _ _).mono (fun r h => h 0) (Cert.ReferenceIdeal.Value.run (F := Ideal) m' g')
  · refine (θ_run Cert.KernelIdeal.defs _ _).mono (fun r h c => ⟨(h.1 c).1.trans ?_, (h.1 c).2⟩) (Cert.CubeProof.run_arrays (F := Ideal) m g)
    exact Cert.CubeProof.out_block m g _ _ _ _ _ hf hp (fun c => (hag c).1) (fun c => (hag c).2.1) (fun c => (hag c).2.2.1)
      (fun c => (hag c).2.2.2.1) (fun c => (hag c).2.2.2.2) c

theorem claim : Cert.Claim := ⟨Cert.Kernel.Gen.facts, Cert.KernelIdeal.Gen.facts, Cert.ReferenceIdeal.Gen.facts,
  Cert.CubeProof.facts_ker, Cert.CubeProof.facts_ref,
  frame_kernel, frame_ideal, frame_ideal_pre Cert.CubeProof.facts_ker, frame_reference, frame_reference_pre Cert.CubeProof.facts_ref, trivial,
  value Cert.CubeProof.facts_ker⟩

end Cert.Proof

end
